-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bias_above [hPre_bias_above : Cert.Pre_bias_above.Facts] (m : (ℓ : Loc Cert.KernelIdeal.nD Cert.KernelIdeal.τ Cert.KernelIdeal.sig) → Buf (Elt Ideal) ℓ) : Prop :=
  ∀ c : Dev Cert.KernelIdeal.nD,
    (Cert.Pre_bias_above.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bias_above [hPre_bias_above : Cert.Pre_bias_above.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bias_above.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bias_above [hKernelIdeal : Cert.KernelIdeal.Facts] [hPre_bias_above : Cert.Pre_bias_above.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bias_above m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bias_above [hReferenceIdeal : Cert.ReferenceIdeal.Facts] [hPre_bias_above : Cert.Pre_bias_above.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bias_above m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_bias_above [hKernelIdeal : Cert.KernelIdeal.Facts] [hReferenceIdeal : Cert.ReferenceIdeal.Facts] [hPre_bias_above : Cert.Pre_bias_above.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bias_above m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_indices_11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_bias_above : Cert.Pre_bias_above.Facts),
    quiescent_Kernel (hKernel := hKernel)
    ∧ quiescent_KernelIdeal (hKernelIdeal := hKernelIdeal)
    ∧ quiescent_KernelIdeal_pre_bias_above (hKernelIdeal := hKernelIdeal) (hPre_bias_above := hPre_bias_above)
    ∧ quiescent_ReferenceIdeal (hReferenceIdeal := hReferenceIdeal)
    ∧ quiescent_ReferenceIdeal_pre_bias_above (hReferenceIdeal := hReferenceIdeal) (hPre_bias_above := hPre_bias_above)
    ∧ preserves_Kernel_KernelIdeal
    ∧ algebraic_KernelIdeal_ReferenceIdeal_pre_bias_above (hKernelIdeal := hKernelIdeal) (hReferenceIdeal := hReferenceIdeal) (hPre_bias_above := hPre_bias_above)
-- ==== Pre_bias_above.lean ====
abbrev S8192x7168 : Shape := ⟨2, ![8192, 7168]⟩
abbrev S256x7168 : Shape := ⟨2, ![256, 7168]⟩
abbrev S256 : Shape := ⟨1, ![256]⟩
abbrev S_ : Shape := ⟨0, ![]⟩

class Facts : Prop where
  bcast_S_S256 : S_.BroadcastsInDim S256 (![] : Fin 0 → Fin S256.rank)

variable [Facts]

def fn {F : FTy → Type} [FloatOps F] (main_arg0 : FVec F S8192x7168 .f32) (main_arg1 : FVec F S256x7168 .f32) (main_arg2 : FVec F S256 .f32) : IVec S256 1 :=
  let main_cst : FVec F S_ .f32 := constant S_ .f32 0xFF800000#32
  let main_v0 : FVec F S256 .f32 := broadcastInDim S256 ![] bcast_S_S256 main_cst
  let main_v1 : IVec S256 1 := cmpf .ogt main_arg2 main_v0
  main_v1
-- ==== Kernel.lean ====
abbrev S8192x7168 : Shape := ⟨2, ![8192, 7168]⟩
abbrev S256x7168 : Shape := ⟨2, ![256, 7168]⟩
abbrev S256 : Shape := ⟨1, ![256]⟩
abbrev S1x256 : Shape := ⟨2, ![1, 256]⟩
abbrev S256x256 : Shape := ⟨2, ![256, 256]⟩
abbrev S_ : Shape := ⟨0, ![]⟩
abbrev S8192x8 : Shape := ⟨2, ![8192, 8]⟩
abbrev S512x7168 : Shape := ⟨2, ![512, 7168]⟩
abbrev S512x8 : Shape := ⟨2, ![512, 8]⟩
abbrev S2x512x256 : Shape := ⟨3, ![2, 512, 256]⟩
abbrev S1x512x256 : Shape := ⟨3, ![1, 512, 256]⟩
abbrev S512x256 : Shape := ⟨2, ![512, 256]⟩
abbrev S512x255 : Shape := ⟨2, ![512, 255]⟩
abbrev S512x1 : Shape := ⟨2, ![512, 1]⟩
abbrev S512x254 : Shape := ⟨2, ![512, 254]⟩
abbrev S512x2 : Shape := ⟨2, ![512, 2]⟩
abbrev S512x252 : Shape := ⟨2, ![512, 252]⟩
abbrev S512x4 : Shape := ⟨2, ![512, 4]⟩
abbrev S512x248 : Shape := ⟨2, ![512, 248]⟩
abbrev S512x240 : Shape := ⟨2, ![512, 240]⟩
abbrev S512x16 : Shape := ⟨2, ![512, 16]⟩
abbrev S512x224 : Shape := ⟨2, ![512, 224]⟩
abbrev S512x32 : Shape := ⟨2, ![512, 32]⟩
abbrev S512x192 : Shape := ⟨2, ![512, 192]⟩
abbrev S512x64 : Shape := ⟨2, ![512, 64]⟩
abbrev S512x160 : Shape := ⟨2, ![512, 160]⟩
abbrev S512x96 : Shape := ⟨2, ![512, 96]⟩
abbrev S512x128 : Shape := ⟨2, ![512, 128]⟩
abbrev S512 : Shape := ⟨1, ![512]⟩

abbrev nBuf : Space → Nat
  | .hbm => 31
  | .vmem => 10
  | .smem => 0
  | _ => 0

abbrev bufTy : (tb : Table) → Fin (tcTables nBuf tb) → BufTy
  | .hbm, ⟨0, _⟩ => ⟨S8192x7168, .f32⟩
  | .hbm, ⟨1, _⟩ => ⟨S256x7168, .f32⟩
  | .hbm, ⟨2, _⟩ => ⟨S256, .f32⟩
  | .hbm, ⟨3, _⟩ => ⟨S1x256, .f32⟩
  | .hbm, ⟨4, _⟩ => ⟨S256x256, .i32⟩
  | .hbm, ⟨5, _⟩ => ⟨S256x256, .i32⟩
  | .hbm, ⟨6, _⟩ => ⟨S_, .i32⟩
  | .hbm, ⟨7, _⟩ => ⟨S_, .i32⟩
  | .hbm, ⟨8, _⟩ => ⟨S256x256, .i32⟩
  | .hbm, ⟨9, _⟩ => ⟨S256x256, .i32⟩
  | .hbm, ⟨10, _⟩ => ⟨S256x256, .i32⟩
  | .hbm, ⟨11, _⟩ => ⟨S_, .i32⟩
  | .hbm, ⟨12, _⟩ => ⟨S256x256, .i32⟩
  | .hbm, ⟨13, _⟩ => ⟨S256x256, .i1⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i1⟩
  | .hbm, ⟨19, _⟩ => ⟨S256x256, .i1⟩
  | .hbm, ⟨20, _⟩ => ⟨S_, .i32⟩
  | .hbm, ⟨21, _⟩ => ⟨S256x256, .i32⟩
  | .hbm, ⟨22, _⟩ => ⟨S256x256, .i32⟩
  | .hbm, ⟨23, _⟩ => ⟨S256x256, .i32⟩
  | .hbm, ⟨24, _⟩ => ⟨S_, .i32⟩
  | .hbm, ⟨25, _⟩ => ⟨S256x256, .i32⟩
  | .hbm, ⟨26, _⟩ => ⟨S256x256, .i32⟩
  | .hbm, ⟨27, _⟩ => ⟨S256x256, .i1⟩
  | .hbm, ⟨28, _⟩ => ⟨S256x256, .bf16⟩
  | .hbm, ⟨29, _⟩ => ⟨S8192x8, .f32⟩
  | .hbm, ⟨30, _⟩ => ⟨S8192x8, .i32⟩
  | .local _ .vmem, ⟨0, _⟩ => ⟨S512x7168, .f32⟩
  | .local _ .vmem, ⟨1, _⟩ => ⟨S512x7168, .f32⟩
  | .local _ .vmem, ⟨2, _⟩ => ⟨S256x7168, .f32⟩
  | .local _ .vmem, ⟨3, _⟩ => ⟨S1x256, .f32⟩
  | .local _ .vmem, ⟨4, _⟩ => ⟨S256x256, .bf16⟩
  | .local _ .vmem, ⟨5, _⟩ => ⟨S512x8, .f32⟩
  | .local _ .vmem, ⟨6, _⟩ => ⟨S512x8, .f32⟩
  | .local _ .vmem, ⟨7, _⟩ => ⟨S512x8, .i32⟩
  | .local _ .vmem, ⟨8, _⟩ => ⟨S512x8, .i32⟩
  | .local _ .vmem, ⟨9, _⟩ => ⟨S2x512x256, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_c : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_c : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_call0_c_0 : Ref sig .tc := ⟨.hbm, 20, rfl⟩
abbrev main_call0_call0_v12 : Ref sig .tc := ⟨.hbm, 21, rfl⟩
abbrev main_call0_call0_v13 : Ref sig .tc := ⟨.hbm, 22, rfl⟩
abbrev main_call0_v3 : Ref sig .tc := ⟨.hbm, 23, rfl⟩
abbrev main_call0_c_0 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_v0_0 : Ref sig .tc := ⟨.hbm, 29, rfl⟩
abbrev main_v0_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![17], ![false]⟩

def k0_off1 (i : grid0.Coords) : Fin 3 → Nat :=
  let arg0 : BitVec 32 := BitVec.ofNat 32 (i 0).val
  let c1_i32 : BitVec 32 := 1#32
  let v0 : BitVec 32 := Scalar.addi arg0 c1_i32
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v11 : Index := Scalar.indexCast v10
  let c0 : Index := 0#32
  let c0_4 : Index := 0#32
  ![v11.toNat, 0, 0]
def k0_off2 (i : grid0.Coords) : Fin 3 → Nat :=
  let arg0 : BitVec 32 := BitVec.ofNat 32 (i 0).val
  let c2_i32_71 : BitVec 32 := 2#32
  let c0_i32_72 : BitVec 32 := 0#32
  let v299 : BitVec 1 := Scalar.cmpi .eq c2_i32_71 c0_i32_72
  let c1_i32_73 : BitVec 32 := 1#32
  let v300 : BitVec 32 := Scalar.select v299 c1_i32_73 c2_i32_71
  let v301 : BitVec 32 := Scalar.remsi arg0 v300
  let c0_i32_75 : BitVec 32 := 0#32
  let v303 : BitVec 1 := Scalar.cmpi .slt v301 c0_i32_75
  let c0_i32_76 : BitVec 32 := 0#32
  let v304 : BitVec 1 := Scalar.cmpi .slt v300 c0_i32_76
  let v305 : BitVec 1 := Scalar.xori v303 v304
  let c0_i32_74 : BitVec 32 := 0#32
  let v302 : BitVec 1 := Scalar.cmpi .ne v301 c0_i32_74
  let v306 : BitVec 1 := Scalar.andi v305 v302
  let v307 : BitVec 32 := Scalar.addi v301 v300
  let v308 : BitVec 32 := Scalar.select v306 v307 v301
  let v309 : Index := Scalar.indexCast v308
  let c0_77 : Index := 0#32
  let c0_78 : Index := 0#32
  ![v309.toNat, 0, 0]
def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x7168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x8 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "neg" => some ⊥
  | _ => none
-- ==== ReferenceIdeal.lean ====
abbrev S8192x7168 : Shape := ⟨2, ![8192, 7168]⟩
abbrev S256x7168 : Shape := ⟨2, ![256, 7168]⟩
abbrev S256 : Shape := ⟨1, ![256]⟩
abbrev S7168x256 : Shape := ⟨2, ![7168, 256]⟩
abbrev S8192x256 : Shape := ⟨2, ![8192, 256]⟩
abbrev S_ : Shape := ⟨0, ![]⟩
abbrev S1x256 : Shape := ⟨2, ![1, 256]⟩
abbrev S8192x8x32 : Shape := ⟨3, ![8192, 8, 32]⟩
abbrev S8192x8x2 : Shape := ⟨3, ![8192, 8, 2]⟩
abbrev S8192x8 : Shape := ⟨2, ![8192, 8]⟩
abbrev S8192x4 : Shape := ⟨2, ![8192, 4]⟩
abbrev S8192 : Shape := ⟨1, ![8192]⟩
abbrev S8192x1 : Shape := ⟨2, ![8192, 1]⟩
abbrev S8192x4x1 : Shape := ⟨3, ![8192, 4, 1]⟩
abbrev S8192x4x2 : Shape := ⟨3, ![8192, 4, 2]⟩
abbrev S8192x8x1 : Shape := ⟨3, ![8192, 8, 1]⟩
abbrev S1 : Shape := ⟨1, ![1]⟩
abbrev S1x1x1 : Shape := ⟨3, ![1, 1, 1]⟩

abbrev nBuf : Space → Nat
  | .hbm => 87
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S256x7168, .f32⟩
  | .hbm, ⟨2, _⟩ => ⟨S256, .f32⟩
  | .hbm, ⟨3, _⟩ => ⟨S7168x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S_, .f32⟩
  | .hbm, ⟨8, _⟩ => ⟨S8192x256, .f32⟩
  | .hbm, ⟨9, _⟩ => ⟨S8192x256, .f32⟩
  | .hbm, ⟨10, _⟩ => ⟨S_, .f32⟩
  | .hbm, ⟨11, _⟩ => ⟨S8192x256, .f32⟩
  | .hbm, ⟨12, _⟩ => ⟨S8192x256, .f32⟩
  | .hbm, ⟨13, _⟩ => ⟨S1x256, .f32⟩
  | .hbm, ⟨14, _⟩ => ⟨S8192x256, .f32⟩
  | .hbm, ⟨15, _⟩ => ⟨S8192x256, .f32⟩
  | .hbm, ⟨16, _⟩ => ⟨S8192x8x32, .f32⟩
  | .hbm, ⟨17, _⟩ => ⟨S8192x8x2, .f32⟩
  | .hbm, ⟨18, _⟩ => ⟨S8192x8x2, .i32⟩
  | .hbm, ⟨19, _⟩ => ⟨S_, .f32⟩
  | .hbm, ⟨20, _⟩ => ⟨S8192x8, .f32⟩
  | .hbm, ⟨21, _⟩ => ⟨S8192x4, .f32⟩
  | .hbm, ⟨22, _⟩ => ⟨S8192x4, .i32⟩
  | .hbm, ⟨23, _⟩ => ⟨S_, .i1⟩
  | .hbm, ⟨24, _⟩ => ⟨S8192x8, .i1⟩
  | .hbm, ⟨25, _⟩ => ⟨S8192, .i32⟩
  | .hbm, ⟨26, _⟩ => ⟨S8192x1, .i32⟩
  | .hbm, ⟨27, _⟩ => ⟨S_, .i32⟩
  | .hbm, ⟨28, _⟩ => ⟨S8192x1, .i32⟩
  | .hbm, ⟨29, _⟩ => ⟨S8192x1, .i1⟩
  | .hbm, ⟨30, _⟩ => ⟨S_, .i32⟩
  | .hbm, ⟨31, _⟩ => ⟨S8192x1, .i32⟩
  | .hbm, ⟨32, _⟩ => ⟨S8192x1, .i32⟩
  | .hbm, ⟨33, _⟩ => ⟨S8192x1, .i32⟩
  | .hbm, ⟨34, _⟩ => ⟨S_, .i32⟩
  | .hbm, ⟨35, _⟩ => ⟨S8192x4, .i32⟩
  | .hbm, ⟨36, _⟩ => ⟨S8192x4, .i1⟩
  | .hbm, ⟨37, _⟩ => ⟨S_, .i32⟩
  | .hbm, ⟨38, _⟩ => ⟨S8192x4, .i32⟩
  | .hbm, ⟨39, _⟩ => ⟨S8192x4, .i32⟩
  | .hbm, ⟨40, _⟩ => ⟨S8192x4, .i32⟩
  | .hbm, ⟨41, _⟩ => ⟨S8192x4, .i32⟩
  | .hbm, ⟨42, _⟩ => ⟨S8192x4x1, .i32⟩
  | .hbm, ⟨43, _⟩ => ⟨S8192x4x1, .i32⟩
  | .hbm, ⟨44, _⟩ => ⟨S8192x4x2, .i32⟩
  | .hbm, ⟨45, _⟩ => ⟨S_, .i1⟩
  | .hbm, ⟨46, _⟩ => ⟨S8192x4, .i1⟩
  | .hbm, ⟨47, _⟩ => ⟨S8192x8, .i1⟩
  | .hbm, ⟨48, _⟩ => ⟨S8192x8x1, .i1⟩
  | .hbm, ⟨49, _⟩ => ⟨S_, .f32⟩
  | .hbm, ⟨50, _⟩ => ⟨S_, .f32⟩
  | .hbm, ⟨51, _⟩ => ⟨S8192x8x32, .i1⟩
  | .hbm, ⟨52, _⟩ => ⟨S8192x8x32, .f32⟩
  | .hbm, ⟨53, _⟩ => ⟨S8192x8x32, .f32⟩
  | .hbm, ⟨54, _⟩ => ⟨S8192x256, .f32⟩
  | .hbm, ⟨55, _⟩ => ⟨S8192x8, .f32⟩
  | .hbm, ⟨56, _⟩ => ⟨S8192x8, .i32⟩
  | .hbm, ⟨57, _⟩ => ⟨S_, .i32⟩
  | .hbm, ⟨58, _⟩ => ⟨S8192x8, .i32⟩
  | .hbm, ⟨59, _⟩ => ⟨S8192x8, .i1⟩
  | .hbm, ⟨60, _⟩ => ⟨S_, .i32⟩
  | .hbm, ⟨61, _⟩ => ⟨S8192x8, .i32⟩
  | .hbm, ⟨62, _⟩ => ⟨S8192x8, .i32⟩
  | .hbm, ⟨63, _⟩ => ⟨S8192x8, .i32⟩
  | .hbm, ⟨64, _⟩ => ⟨S8192x8x1, .i32⟩
  | .hbm, ⟨65, _⟩ => ⟨S1, .i32⟩
  | .hbm, ⟨66, _⟩ => ⟨S_, .i32⟩
  | .hbm, ⟨67, _⟩ => ⟨S8192x8x1, .i32⟩
  | .hbm, ⟨68, _⟩ => ⟨S8192x8x1, .i1⟩
  | .hbm, ⟨69, _⟩ => ⟨S1x1x1, .i32⟩
  | .hbm, ⟨70, _⟩ => ⟨S8192x8x1, .i32⟩
  | .hbm, ⟨71, _⟩ => ⟨S8192x8x1, .i1⟩
  | .hbm, ⟨72, _⟩ => ⟨S8192x8x1, .i1⟩
  | .hbm, ⟨73, _⟩ => ⟨S_, .i1⟩
  | .hbm, ⟨74, _⟩ => ⟨S8192x8, .i1⟩
  | .hbm, ⟨75, _⟩ => ⟨S8192x8, .f32⟩
  | .hbm, ⟨76, _⟩ => ⟨S_, .f32⟩
  | .hbm, ⟨77, _⟩ => ⟨S8192x8, .f32⟩
  | .hbm, ⟨78, _⟩ => ⟨S8192x8, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S8192x8, .f32⟩
  | .hbm, ⟨83, _⟩ => ⟨S8192x8, .f32⟩
  | .hbm, ⟨84, _⟩ => ⟨S_, .f32⟩
  | .hbm, ⟨85, _⟩ => ⟨S8192x8, .f32⟩
  | .hbm, ⟨86, _⟩ => ⟨S8192x8, .f32⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_values : Ref sig .tc := ⟨.hbm, 17, rfl⟩
abbrev main_indices : Ref sig .tc := ⟨.hbm, 18, rfl⟩
abbrev main_cst_1 : Ref sig .tc := ⟨.hbm, 19, rfl⟩
abbrev main_v12 : Ref sig .tc := ⟨.hbm, 20, rfl⟩
abbrev main_values_2 : Ref sig .tc := ⟨.hbm, 21, rfl⟩
abbrev main_indices_3 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_c_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_c_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v33 : Ref sig .tc := ⟨.hbm, 53, rfl⟩
abbrev main_v34 : Ref sig .tc := ⟨.hbm, 54, rfl⟩
abbrev main_values_10 : Ref sig .tc := ⟨.hbm, 55, rfl⟩
abbrev main_indices_11 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_cst : Ref sig .tc := ⟨.hbm, 76, rfl⟩
abbrev main_call1_v14 : Ref sig .tc := ⟨.hbm, 77, rfl⟩
abbrev main_v35 : Ref sig .tc := ⟨.hbm, 78, rfl⟩
abbrev main_cst_12 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_cst_13 : Ref sig .tc := ⟨.hbm, 84, rfl⟩
abbrev main_v40 : Ref sig .tc := ⟨.hbm, 85, rfl⟩
abbrev main_v41 : Ref sig .tc := ⟨.hbm, 86, rfl⟩

abbrev nD : Nat := 1
abbrev τ : Topo := Topo.v7x

variable {F : FTy → Type} [FloatOps F]
-- ==== Proof.KernelFrame.lean ====
/-
  The frame of the kernel as printed, before any reading of its constants: it ends, faults nowhere, leaves its arguments
  as they were and every semaphore at zero. Nothing is said of its results.
-/
module

public import proofs.«01_k».proof.Proof.Gen.Kernel.Launch
public import proofs.«01_k».proof.Proof.Gen.Kernel.Points
public import proofs.«01_k».proof.Proof.Gen.Kernel.Skeleton
public import proofs.«01_k».proof.Proof.Gen.Kernel.Frame
public import Idealize.ShloMosaic.Lib.VecWindow
public import Idealize.ShloMosaic.Lib.Tactic
public import Idealize.ShloMosaic.Lib.Pipeline.Kit
public import Idealize.ShloMosaic.Lib.Pipeline.DatRel

@[expose] public section

noncomputable section

namespace Cert.Plain

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch. -/
abbrev scr : Memref sig .tc .vmem S2x512x256 .f32 := Memref.whole cc0_scratch0

/-- One step: the inputs' buffers come back as they were, the results' and the scratch at some contents. -/
theorem step_run (c : Dev nD) (i : grid0.Coords)
    (M1 : Memref sig .tc .vmem S512x7168 .f32) (h1 : M1.IsWhole) (M2 : Memref sig .tc .vmem S256x7168 .f32) (h2 : M2.IsWhole)
    (M3 : Memref sig .tc .vmem S1x256 .f32) (h3 : M3.IsWhole) (M4 : Memref sig .tc .vmem S256x256 .bf16) (h4 : M4.IsWhole)
    (M5 : Memref sig .tc .vmem S512x8 .f32) (h5 : M5.IsWhole) (M6 : Memref sig .tc .vmem S512x8 .i32) (h6 : M6.IsWhole)
    (M7 : Memref sig .tc .vmem S2x512x256 .f32) (h7 : M7.IsWhole)
    (X1 : S512x7168.Idx → Elt F .f32) (X2 : S256x7168.Idx → Elt F .f32) (X3 : S1x256.Idx → Elt F .f32) (X4 : S256x256.Idx → Elt F .bf16)
    (X5 : S512x8.Idx → Elt F .f32) (X6 : S512x8.Idx → Elt F .i32)
    (f7 : Buf (Elt F) (M7.view.loc (c : Thread nD τ))) (Q : PUnit → sProp 𝕄) :
    iprop(owns (c : Thread nD τ) M1 fullShare X1 ∗ owns (c : Thread nD τ) M2 fullShare X2 ∗ owns (c : Thread nD τ) M3 fullShare X3
      ∗ owns (c : Thread nD τ) M4 fullShare X4 ∗ owns (c : Thread nD τ) M5 fullShare X5 ∗ owns (c : Thread nD τ) M6 fullShare X6
      ∗ (M7.view.loc (c : Thread nD τ) ↦{fullShare} f7)
      ∗ (iprop(owns (c : Thread nD τ) M1 fullShare X1 ∗ owns (c : Thread nD τ) M2 fullShare X2 ∗ owns (c : Thread nD τ) M3 fullShare X3
          ∗ owns (c : Thread nD τ) M4 fullShare X4 ∗ (∃ X, owns (c : Thread nD τ) M5 fullShare X) ∗ (∃ X, owns (c : Thread nD τ) M6 fullShare X)
          ∗ (∃ f, M7.view.loc (c : Thread nD τ) ↦{fullShare} f)) -∗ Q ⟨⟩))
    ⊢ wp frame (wpE (defs₀ (F := F)) Variants.none c none) Set.univ
        (cc0__gate_kernel i M1 h1 M2 h2 M3 h3 M4 h4 M5 h5 M6 h6 M7 h7) Q := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, H7, Hk⟩
  sl_exec
  sl_step
  iapply Hk
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  isplitl [H5]; · iexists _; iexists _; isplitr; swap; (· iexact H5); ipureintro; rfl
  isplitl [H6]; · iexists _; iexists _; isplitr; swap; (· iexact H6); ipureintro; rfl
  iexists _; iexact H7

/-- The proof data: each input window's buffer keeps its block; the results' windows are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ _ := Pipeline.ΦA spec0 c
  q _ := fullShare
  owed _ := 0

/-- The results' windows. -/
def isRes (w : Fin cfg0.W) : Bool := match w with
  | ⟨4, _⟩ => true
  | ⟨5, _⟩ => true
  | _ => false

/-- The run takes no variants. -/
abbrev 𝒱₀ : Variants := Variants.none

set_option maxHeartbeats 2000000 in
/-- The body at every point: `step_run` at the point's buffers. -/
theorem body (c : Dev nD) : Pipeline.BodyObligationRel (dats m 0 c) (defs₀ (F := F)) 𝒱₀ () Set.univ isRes (fun _ _ _ => True) := fun t => by
  rw [bigSep_W0, bigSep_W0]
  simp only [show isRes 0 = false from rfl, show isRes 1 = false from rfl, show isRes 2 = false from rfl,
    show isRes 3 = false from rfl, show isRes 4 = true from rfl, show isRes 5 = true from rfl]
  rw [show (dats m 0 c).Φ t.castSucc = Pipeline.ΦA spec0 c from rfl, show (dats m 0 c).Φ t.succ = Pipeline.ΦA spec0 c from rfl]
  unfold Pipeline.ΦA; rw [scopedRest0_eq]
  iintro ⟨⟨⟨%f7, H7⟩, Hr⟩, HO, ⟨%d0, H0⟩, ⟨%d1, H1⟩, ⟨%d2, H2⟩, ⟨%d3, H3⟩, ⟨%Y4, -, H4⟩, ⟨%Y5, -, H5⟩⟩
  rw [before0_0_of m (dats m 0 c) rfl (fun _ => rfl) t, before0_1_of m (dats m 0 c) rfl (fun _ => rfl) t,
    before0_2_of m (dats m 0 c) rfl (fun _ => rfl) t, before0_3_of m (dats m 0 c) rfl (fun _ => rfl) t]
  iapply (step_run c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    scr (Memref.isWhole_whole _) (iblk m c 0 t) (iblk m c 1 t) (iblk m c 2 t) (iblk m c 3 t) Y4 Y5 f7)
  isplitl [H0]; · iexact H0
  isplitl [H1]; · iexact H1
  isplitl [H2]; · iexact H2
  isplitl [H3]; · iexact H3
  isplitl [H4]; · iexact H4
  isplitl [H5]; · iexact H5
  isplitl [H7]; · iexact H7
  iintro ⟨H0, H1, H2, H3, ⟨%Z4, H4⟩, ⟨%Z5, H5⟩, ⟨%g7, H7⟩⟩
  isplitl [H7 Hr]
  · isplitl [H7]; · iexists g7; iexact H7
    iexact Hr
  isplitl [HO]; · iexact HO
  isplitl [H0]; · iexact H0
  isplitl [H1]; · iexact H1
  isplitl [H2]; · iexact H2
  isplitl [H3]; · iexact H3
  isplitl [H4]
  · iexists Z4; isplitr; swap; (· iexact H4); ipureintro; trivial
  iexists Z5; isplitr; swap; (· iexact H5); ipureintro; trivial

/-- The proof data with the results' windows held to nothing. -/
abbrev rdat (c : Dev nD) : Pipeline.RDat τ (Elt F) Unit ℕ (UR sig nD τ) ℕ cfg0 c := (dats m 0 c).toRRel isRes (fun _ _ _ => True)

/-- Every run ends, faults nowhere and leaves every semaphore at zero; the windowed arrays are as the proof data allow, every other
    array as the region found it. -/
theorem run_main : θ_run defs (onTc (τ := τ) (main (F := F))) (s₀ m ρ)
    (fun r => Pipeline.RDat.FramePost cfg0 (rdat m) (V m) r ∧ r.2.sem = fun _ => 0) :=
  Pipeline.RDat.θ_run_frame_track cfgs 0 launch0 defs₀ 𝒱₀ (rdat m) m ρ main (fun c => (body m c).toRRel)
    (fun c w => (rdat m c).share_full (fun _ => rfl) w) (fun _ _ => rfl) (V m) (hmain m 𝒱₀) (fun _ _ => rfl)
    (fun c => .rfl) (fun c => .rfl) _ (fun _ h => h)

/-- The arguments after a run: as launched. -/
theorem args_kept (r : PUnit × MemSt nD τ sig (Elt F)) (h : Pipeline.RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have hw := (h c).1
  have h0 := hw 0
  have h1 := hw 1
  rw [(rdat m c).ArrAt_in 0 rfl] at h0
  rw [(rdat m c).ArrAt_in 1 rfl] at h1
  exact ⟨h0.trans (V_main_arg0 m c), h1.trans (V_main_arg1 m c),
    ((h c).2 main_arg2 (Pipeline.mem_restRefs_of main_arg2 (by decide) (by decide))).trans (V_main_arg2 m c)⟩

/-- The frame. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => args_kept m r h.1 c, h.2⟩) (run_main m ρ)

end Cert.Plain

end
-- ==== Proof.GateFn.lean ====
/-
  The kernel's gate as a function: what one step leaves in its two results, from the scores it reads back out of
  the scratch, the bias row and the matrix that spreads a group's mark over the group.
-/
module

public import proofs.«01_k».proof.Proof.Gen.KernelIdeal.Skeleton

@[expose] public section

noncomputable section

namespace Cert.Gate

open Cert.KernelIdeal Cert.KernelIdeal.Gen
open Idealize.ShloMosaic

variable {F : FTy → Type} [FloatOps F] [Named F]

/-- The scores of one block, as the kernel stores them in a scratch slot: the block's rows against the weight's rows. -/
def scoresOf (x : Vec F S512x7168 .f32) (w : Vec F S256x7168 .f32) : Vec F S1x512x256 .f32 := k0_pay3 (k0_pay4 x w)

variable (sc : Vec F S1x512x256 .f32) (b : Vec F S1x256 .f32) (bc : Vec F S256x256 .bf16)

/-- The lane numbers. -/
def lane : IVec S512x256 32 := iota .tc S512x256 32 [1] iota_S512x256_d1_w32
/-- The score of each group, at the group's first lane. -/
def groupScore : FVec F S512x256 .f32 := k0_pay14 (k0_pay9 sc b) (k0_pay10 sc b) (k0_pay11 sc b) (k0_pay12 sc b) (k0_pay13 sc b)
/-- The mark of each kept group, at the group's first lane. -/
def keepMark : IVec S512x256 1 :=
  k0_pay18 lane k0_pay7 (groupScore sc b)
    (k0_pay15 lane (k0_pay9 sc b) (k0_pay10 sc b) (k0_pay11 sc b) (k0_pay12 sc b) (k0_pay13 sc b))
    (k0_pay16 (k0_pay9 sc b) (k0_pay10 sc b) (k0_pay11 sc b) (k0_pay12 sc b) (k0_pay13 sc b))
    (k0_pay17 (k0_pay9 sc b) (k0_pay10 sc b) (k0_pay11 sc b) (k0_pay12 sc b) (k0_pay13 sc b))

/-- The constant 1 of the mark. -/
def one : F .f32 := Scalar.ofBits .f32 0x3F800000#32
/-- The constant 0 of the mark. -/
def zero : F .f32 := Scalar.ofBits .f32 0x00000000#32

/-- The candidates after the first selection. -/
def cur1 : FVec F S512x256 .f32 := k0_pay25 (k0_pay5 sc) (k0_pay6 sc b) lane (keepMark sc b) one zero bc
/-- The mark of the second selected lane. -/
def hit2 : IVec S512x256 1 := k0_pay29 (k0_pay5 sc) (k0_pay6 sc b) lane (keepMark sc b) one zero bc
/-- The lane numbers as numbers. -/
def lanef : FVec F S512x256 .f32 := k0_pay20 lane
/-- The lane numbers with half the sigmoid added. -/
def keyv : FVec F S512x256 .f32 := k0_pay21 (k0_pay5 sc) lane
/-- The candidates after the fourth selection. -/
def cur4 : FVec F S512x256 .f32 := k0_pay38 lanef (keyv sc) (cur1 sc b bc) (hit2 sc b bc)
/-- The fifth selected lane. -/
def idx5 : FVec F S512x1 .f32 := k0_pay40 lanef (keyv sc) (cur1 sc b bc) (hit2 sc b bc)

/-- The eight weights of each row of the block. -/
def gateW : FVec F S512x8 .f32 :=
  k0_pay2 (k0_pay24 (k0_pay5 sc) (k0_pay6 sc b) lane (keepMark sc b) one zero bc)
    (k0_pay28 (k0_pay5 sc) (k0_pay6 sc b) lane (keepMark sc b) one zero bc)
    (k0_pay33 (keyv sc) (cur1 sc b bc) (hit2 sc b bc))
    (k0_pay37 lanef (keyv sc) (cur1 sc b bc) (hit2 sc b bc))
    (k0_pay43 (k0_pay41 lanef (keyv sc) (cur1 sc b bc) (hit2 sc b bc)) k0_pay42)
    (k0_pay47 lanef (keyv sc) (cur4 sc b bc) (idx5 sc b bc))
    (k0_pay51 lanef (keyv sc) (cur4 sc b bc) (idx5 sc b bc))
    (k0_pay52 lanef (keyv sc) (cur4 sc b bc) (idx5 sc b bc))
    (k0_pay53 lanef (keyv sc) (cur4 sc b bc) (idx5 sc b bc))

/-- The eight experts of each row of the block. -/
def gateI : IVec S512x8 32 :=
  k0_pay1 (k0_pay23 (k0_pay5 sc) (k0_pay6 sc b) lane (keepMark sc b) one zero bc)
    (k0_pay27 (k0_pay5 sc) (k0_pay6 sc b) lane (keepMark sc b) one zero bc)
    (k0_pay32 (keyv sc) (cur1 sc b bc) (hit2 sc b bc))
    (k0_pay36 lanef (keyv sc) (cur1 sc b bc) (hit2 sc b bc))
    (idx5 sc b bc)
    (k0_pay46 lanef (keyv sc) (cur4 sc b bc) (idx5 sc b bc))
    (k0_pay50 lanef (keyv sc) (cur4 sc b bc) (idx5 sc b bc))
    (k0_pay53 lanef (keyv sc) (cur4 sc b bc) (idx5 sc b bc))

end Cert.Gate

end
-- ==== Proof.Step.lean ====
/-
  One step of the kernel: what its body does to the buffers it is handed.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Frame
public import proofs.«01_k».proof.Proof.GateFn
public import Idealize.ShloMosaic.Lib.VecWindow
public import Idealize.ShloMosaic.Lib.Tactic
public import Idealize.ShloMosaic.Lib.Pipeline.Kit

@[expose] public section

noncomputable section

namespace Cert.Gate

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- From the six windows' staging buffers held at their contents and the scratch at `f7`, one step leaves the inputs as they
    were, the two results at the gate of the scores read from the scratch, and the scratch with the block's scores stored. -/
theorem step_run (c : Dev nD) (i : grid0.Coords)
    (M1 : Memref sig .tc .vmem S512x7168 .f32) (h1 : M1.IsWhole) (M2 : Memref sig .tc .vmem S256x7168 .f32) (h2 : M2.IsWhole)
    (M3 : Memref sig .tc .vmem S1x256 .f32) (h3 : M3.IsWhole) (M4 : Memref sig .tc .vmem S256x256 .bf16) (h4 : M4.IsWhole)
    (M5 : Memref sig .tc .vmem S512x8 .f32) (h5 : M5.IsWhole) (M6 : Memref sig .tc .vmem S512x8 .i32) (h6 : M6.IsWhole)
    (M7 : Memref sig .tc .vmem S2x512x256 .f32) (h7 : M7.IsWhole)
    (X1 : S512x7168.Idx → Elt F .f32) (X2 : S256x7168.Idx → Elt F .f32) (X3 : S1x256.Idx → Elt F .f32) (X4 : S256x256.Idx → Elt F .bf16)
    (X5 : S512x8.Idx → Elt F .f32) (X6 : S512x8.Idx → Elt F .i32)
    (f7 : Buf (Elt F) (M7.view.loc (c : Thread nD τ))) (Q : PUnit → sProp 𝕄) :
    iprop(owns (c : Thread nD τ) M1 fullShare X1 ∗ owns (c : Thread nD τ) M2 fullShare X2 ∗ owns (c : Thread nD τ) M3 fullShare X3
      ∗ owns (c : Thread nD τ) M4 fullShare X4 ∗ owns (c : Thread nD τ) M5 fullShare X5 ∗ owns (c : Thread nD τ) M6 fullShare X6
      ∗ (M7.view.loc (c : Thread nD τ) ↦{fullShare} f7)
      ∗ (iprop(owns (c : Thread nD τ) M1 fullShare X1 ∗ owns (c : Thread nD τ) M2 fullShare X2 ∗ owns (c : Thread nD τ) M3 fullShare X3
          ∗ owns (c : Thread nD τ) M4 fullShare X4
          ∗ owns (c : Thread nD τ) M5 fullShare
              (gateW (M7.view.readAt (Elt F) (Rect.unit (s := S2x512x256) (k0_off1 i) S1x512x256.size (k0_off1_inb i)).toLoadRect f7) X3 X4)
          ∗ owns (c : Thread nD τ) M6 fullShare
              (gateI (M7.view.readAt (Elt F) (Rect.unit (s := S2x512x256) (k0_off1 i) S1x512x256.size (k0_off1_inb i)).toLoadRect f7) X3 X4)
          ∗ (M7.view.loc (c : Thread nD τ) ↦{fullShare}
              M7.view.writes (Elt F) f7 [⟨Rect.unit (s := S2x512x256) (k0_off2 i) S1x512x256.size (k0_off2_inb i), scoresOf X1 X2⟩])) -∗ Q ⟨⟩))
    ⊢ wp frame (wpE (defs₀ (F := F)) Variants.none c none) Set.univ
        (cc0__gate_kernel i M1 h1 M2 h2 M3 h3 M4 h4 M5 h5 M6 h6 M7 h7) Q := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, H7, Hk⟩
  sl_exec
  sl_step
  iapply Hk
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  isplitl [H5]
  · iexists _; isplitr; swap; (· iexact H5); ipureintro
    rw [View.read_writes_full, ← e3, ← e4, ← View.readAt_full M3.view f3 inb_S1x256_S1x256_0_0,
      ← View.readAt_full M4.view f4 inb_S256x256_S256x256_0_0]
    rfl
  isplitl [H6]
  · iexists _; isplitr; swap; (· iexact H6); ipureintro
    rw [View.read_writes_full, ← e3, ← e4, ← View.readAt_full M3.view f3 inb_S1x256_S1x256_0_0,
      ← View.readAt_full M4.view f4 inb_S256x256_S256x256_0_0]
    rfl
  rw [← e1, ← e2, ← View.readAt_full M1.view f1 inb_S512x7168_S512x7168_0_0,
    ← View.readAt_full M2.view f2 inb_S256x7168_S256x7168_0_0]
  iexact H7

end Cert.Gate

end
-- ==== Proof.Run.lean ====
/-
  The kernel's run: the pipeline's proof data, the body at each point, and the launch.

  The pipeline has seventeen steps over sixteen blocks of rows. Step `t` stores the scores of block `min t 15` in one slot of
  the scratch and gates the scores it finds in the other slot, which step `t - 1` stored; step 0 finds nothing of use
  there, and what it leaves in the results' staging buffers is overwritten by step 1 before it is written back.
-/
module

public import proofs.«01_k».proof.Proof.Step
public import Idealize.ShloMosaic.Lib.Pipeline.DatRel
public import Idealize.ShloMosaic.Lib.Pipeline.ArrRel

@[expose] public section

noncomputable section

namespace Cert.Gate

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The scores step `s` stores. -/
def stored (c : Dev nD) (s : Fin cfg0.N) : Vec F S1x512x256 .f32 := scoresOf (iblk m c 0 s) (iblk m c 1 s)

/-- The scratch. -/
abbrev scr : Memref sig .tc .vmem S2x512x256 .f32 := Memref.whole cc0_scratch0

/-- The slot that step `i` stores into, read. -/
def slotOf (i : grid0.Coords) (c : Dev nD) (f : Buf (Elt F) (scr.view.loc (c : Thread nD τ))) : Vec F S1x512x256 .f32 :=
  scr.view.readAt (Elt F) (Rect.unit (s := S2x512x256) (k0_off2 i) S1x512x256.size (k0_off2_inb i)).toLoadRect f

/-- What is known of the scratch before step `t`: the slot of the step before holds what that step stored. -/
def ScrOk (c : Dev nD) (t : Fin (cfg0.N + 1)) (f : Buf (Elt F) (scr.view.loc (c : Thread nD τ))) : Prop :=
  ∀ s : Fin cfg0.N, s.val + 1 = t.val → slotOf (grid0.coords s) c f = stored m c s

/-- The invariant between steps: the scratch at contents of which `ScrOk` holds, and the generator's register. -/
def Inv (c : Dev nD) (t : Fin (cfg0.N + 1)) : sProp 𝕄 :=
  iprop((∃ f : Buf (Elt F) (scr.view.loc (c : Thread nD τ)), ⌜ScrOk m c t f⌝ ∗ (scr.view.loc (c : Thread nD τ)) ↦{fullShare} f)
    ∗ ∃ r, prngReg c r)

/-- The proof data: each input window's buffer keeps its block; the results' windows are constrained by `Left` below. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ t := Inv m c t
  q _ := fullShare
  owed _ := 0

/-- The results' windows. -/
def isRes (w : Fin cfg0.W) : Bool := match w with
  | ⟨4, _⟩ => true
  | ⟨5, _⟩ => true
  | _ => false

/-- What step `t` leaves in a result's staging buffer: after the first step, the gate of the scores stored one step before. -/
def Left (c : Dev nD) (w : Fin cfg0.W) (t : Fin cfg0.N) (X : (cfg0.win w).block.Idx → Elt F (cfg0.win w).elt) : Prop := match w with
  | ⟨4, _⟩ => ∀ s : Fin cfg0.N, s.val + 1 = t.val → X = gateW (stored m c s) (iblk m c 2 t) (iblk m c 3 t)
  | ⟨5, _⟩ => ∀ s : Fin cfg0.N, s.val + 1 = t.val → X = gateI (stored m c s) (iblk m c 2 t) (iblk m c 3 t)
  | _ => True

/-- The slot a step reads is the slot the step before stored into. -/
theorem off_prev : ∀ s t : Fin cfg0.N, s.val + 1 = t.val → k0_off1 (grid0.coords t) = k0_off2 (grid0.coords s) := by
  decide +kernel

/-- The slot read at step `t` is what the step before stored. -/
theorem read_prev (c : Dev nD) (s t : Fin cfg0.N) (h : s.val + 1 = t.val) (f : Buf (Elt F) (scr.view.loc (c : Thread nD τ)))
    (hf : ScrOk m c t.castSucc f) :
    scr.view.readAt (Elt F) (Rect.unit (s := S2x512x256) (k0_off1 (grid0.coords t)) S1x512x256.size (k0_off1_inb (grid0.coords t))).toLoadRect f
      = stored m c s := by
  rw [← hf s h]; unfold slotOf
  rw [View.readAt_unit _ _ _ (off_prev s t h) (k0_off2_inb (grid0.coords s)), View.readAt_unit _ _ _ rfl (k0_off2_inb (grid0.coords s))]

/-- After step `t` the slot it stored into holds what it stored. -/
theorem scrOk_succ (c : Dev nD) (t : Fin cfg0.N) (f : Buf (Elt F) (scr.view.loc (c : Thread nD τ))) :
    ScrOk m c t.succ (scr.view.writes (Elt F) f
      [⟨Rect.unit (s := S2x512x256) (k0_off2 (grid0.coords t)) S1x512x256.size (k0_off2_inb (grid0.coords t)), stored m c t⟩]) := by
  intro s hs
  obtain rfl : s = t := Fin.ext (by simpa using hs)
  unfold slotOf
  funext y
  exact View.read_writes_cons_emb _ _ _ _ _ y

/-- The run takes no variants. -/
abbrev 𝒱₀ : Variants := Variants.none

set_option maxHeartbeats 2000000 in
/-- The body at every point: `step_run` at the point's buffers. -/
theorem body (c : Dev nD) : Pipeline.BodyObligationRel (dats m 0 c) (defs₀ (F := F)) 𝒱₀ () Set.univ isRes (Left m c) := fun t => by
  rw [bigSep_W0, bigSep_W0]
  simp only [show isRes 0 = false from rfl, show isRes 1 = false from rfl, show isRes 2 = false from rfl,
    show isRes 3 = false from rfl, show isRes 4 = true from rfl, show isRes 5 = true from rfl]
  rw [show (dats m 0 c).Φ t.castSucc = Inv m c t.castSucc from rfl, show (dats m 0 c).Φ t.succ = Inv m c t.succ from rfl]
  unfold Inv
  iintro ⟨⟨⟨%f7, %hf7, H7⟩, Hr⟩, HO, ⟨%d0, H0⟩, ⟨%d1, H1⟩, ⟨%d2, H2⟩, ⟨%d3, H3⟩, ⟨%Y4, -, H4⟩, ⟨%Y5, -, H5⟩⟩
  rw [before0_0_of m (dats m 0 c) rfl (fun _ => rfl) t, before0_1_of m (dats m 0 c) rfl (fun _ => rfl) t,
    before0_2_of m (dats m 0 c) rfl (fun _ => rfl) t, before0_3_of m (dats m 0 c) rfl (fun _ => rfl) t]
  iapply (step_run c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    scr (Memref.isWhole_whole _) (iblk m c 0 t) (iblk m c 1 t) (iblk m c 2 t) (iblk m c 3 t) Y4 Y5 f7)
  isplitl [H0]; · iexact H0
  isplitl [H1]; · iexact H1
  isplitl [H2]; · iexact H2
  isplitl [H3]; · iexact H3
  isplitl [H4]; · iexact H4
  isplitl [H5]; · iexact H5
  isplitl [H7]; · iexact H7
  iintro ⟨H0, H1, H2, H3, H4, H5, H7⟩
  isplitl [H7 Hr]
  · isplitl [H7]
    · iexists _; isplitr; swap; (· iexact H7); ipureintro; exact scrOk_succ m c t f7
    iexact Hr
  isplitl [HO]; · iexact HO
  isplitl [H0]; · iexact H0
  isplitl [H1]; · iexact H1
  isplitl [H2]; · iexact H2
  isplitl [H3]; · iexact H3
  isplitl [H4]
  · iexists _; isplitr; swap; (· iexact H4); ipureintro; intro s hs; rw [read_prev m c s t hs f7 hf7]
  iexists _; isplitr; swap; (· iexact H5); ipureintro; intro s hs; rw [read_prev m c s t hs f7 hf7]

/-- The proof data with the results' windows held to `Left`. -/
abbrev rdat (c : Dev nD) : Pipeline.RDat τ (Elt F) Unit ℕ (UR sig nD τ) ℕ cfg0 c := (dats m 0 c).toRRel isRes (Left m c)

/-- Every run of the kernel ends, faults nowhere, leaves every semaphore at zero, each windowed array at contents that the
    proof data allow and every other array as the region found it. -/
theorem run_main : θ_run defs (onTc (τ := τ) (main (F := F))) (s₀ m ρ)
    (fun r => Pipeline.RDat.FramePost cfg0 (rdat m) (V m) r ∧ r.2.sem = fun _ => 0) :=
  Pipeline.RDat.θ_run_frame_track cfgs 0 launch0 defs₀ 𝒱₀ (rdat m) m ρ main (fun c => (body m c).toRRel)
    (fun c w => (rdat m c).share_full (fun _ => rfl) w) (fun _ _ => rfl) (V m) (hmain m 𝒱₀) (fun _ _ => rfl)
    (fun c => by
      show Pipeline.ΦA spec0 c ⊢ Inv m c 0
      unfold Pipeline.ΦA Inv; rw [scopedRest0_eq]
      iintro ⟨⟨%f, H⟩, Hr⟩
      isplitl [H]
      · iexists f; isplitr; swap; (· iexact H); ipureintro; intro s hs; exact absurd hs (Nat.succ_ne_zero _)
      iexact Hr)
    (fun c => by
      show Inv m c (Fin.last _) ⊢ Pipeline.ΦA spec0 c
      unfold Pipeline.ΦA Inv; rw [scopedRest0_eq]
      iintro ⟨⟨%f, -, H⟩, Hr⟩
      isplitl [H]
      · iexists f; iexact H
      iexact Hr)
    _ (fun _ h => h)

/-- The arguments after a run: as launched. -/
theorem args_kept (r : PUnit × MemSt nD τ sig (Elt F)) (h : Pipeline.RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have hw := (h c).1
  have h0 := hw 0
  have h1 := hw 1
  rw [(rdat m c).ArrAt_in 0 rfl] at h0
  rw [(rdat m c).ArrAt_in 1 rfl] at h1
  exact ⟨h0.trans (V_main_arg0 m c), h1.trans (V_main_arg1 m c),
    ((h c).2 main_arg2 (Pipeline.mem_restRefs_of main_arg2 (by decide) (by decide))).trans (V_main_arg2 m c)⟩

/-- The frame. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => args_kept m r h.1 c, h.2⟩) (run_main m ρ)

end Cert.Gate

end
-- ==== Proof.Pick.lean ====
/-
  Choosing the greatest: the order in which positions are chosen (greater value first, of equal values the lower
  position), the position of each rank in that order, and the host's top-k read at an index.
-/
module

public import Idealize.ShloMosaic.Lib.SortPrefix
public import Idealize.ShloMosaic.Lib.Pointwise

@[expose] public section

noncomputable section

namespace Cert.Pick

open Idealize.ShloMosaic

variable {n : Nat}

/-- `i` is chosen before `j`: its value is greater, or the two are equal and `i` is lower. -/
def bef (f : Fin n → EReal) (i j : Fin n) : Bool := decide (f j < f i) || (decide (f i = f j) && decide (i < j))

/-- The order said in words of order and equality. -/
theorem bef_iff (f : Fin n → EReal) (i j : Fin n) : bef f i j = true ↔ f j < f i ∨ (f i = f j ∧ i < j) := by
  simp [bef]

/-- The order is strict and total. -/
theorem bef_total (f : Fin n → EReal) : StrictTotalBefore (bef f) :=
  StrictTotalBefore.of_key_then_position (fun a b : EReal => decide (b < a)) f (fun a => by simp)
    (fun a b c h1 h2 => by simp only [decide_eq_true_eq] at *; exact lt_trans h2 h1)
    (fun a b => by
      simp only [decide_eq_true_eq]
      rcases lt_trichotomy a b with h | h | h
      · exact .inr (.inr h)
      · exact .inr (.inl h)
      · exact .inl h)

/-- The position chosen in round `q`. -/
def pos (f : Fin n → EReal) (q : Fin n) : Fin n := sortedFrom (bef f) q

/-- No position is chosen in two rounds. -/
theorem pos_injective (f : Fin n → EReal) : Function.Injective (pos f) := sortedFrom_injective _
/-- Every position is chosen in some round. -/
theorem pos_surjective (f : Fin n → EReal) : Function.Surjective (pos f) := sortedFrom_surjective _

/-- Earlier rounds choose earlier positions. -/
theorem bef_pos {f : Fin n → EReal} {i j : Fin n} (h : i < j) : bef f (pos f i) (pos f j) = true := by
  have hT := bef_total f
  have hno : bef f (pos f j) (pos f i) = false :=
    sortedFrom_noInversion (bef f) (bef f) (fun a b => hT.asymm a b) (fun _ _ h => h) (fun a b c => hT.negTrans a b c) i j h
  rcases hT.total (pos f i) (pos f j) (fun e => (ne_of_lt h) (pos_injective f e)) with h' | h'
  · exact h'
  · rw [hno] at h'; cases h'

/-- Of two rounds' positions, the one chosen before is that of the earlier round. -/
theorem bef_pos_iff (f : Fin n → EReal) (i j : Fin n) : bef f (pos f i) (pos f j) = true ↔ i < j := by
  refine ⟨fun h => ?_, bef_pos⟩
  rcases lt_trichotomy i j with h' | h' | h'
  · exact h'
  · subst h'; rw [(bef_total f).irrefl] at h; cases h
  · rw [(bef_total f).asymm _ _ (bef_pos h')] at h; cases h

/-- Later rounds choose no greater values. -/
theorem val_pos_le {f : Fin n → EReal} {i j : Fin n} (h : i ≤ j) : f (pos f j) ≤ f (pos f i) := by
  rcases eq_or_lt_of_le h with rfl | h
  · exact le_rfl
  · rcases (bef_iff f _ _).mp (bef_pos h) with h | h
    · exact le_of_lt h
    · exact le_of_eq h.1.symm

/-- The number of positions chosen before the one of round `q` is `q`. -/
theorem card_bef (f : Fin n → EReal) (q : Fin n) :
    (Finset.univ.filter fun i => bef f i (pos f q) = true).card = q.val := by
  have e : (Finset.univ.filter fun i => bef f i (pos f q) = true) = (Finset.univ.filter fun j : Fin n => j < q).image (pos f) := by
    ext i
    obtain ⟨j, rfl⟩ := pos_surjective f i
    simp only [Finset.mem_filter, Finset.mem_univ, true_and, bef_pos_iff, Finset.mem_image]
    exact ⟨fun h => ⟨j, h, rfl⟩, fun ⟨a, h, e⟩ => pos_injective f e ▸ h⟩
  rw [e, Finset.card_image_of_injective _ (pos_injective f)]
  have : (Finset.univ.filter fun j : Fin n => j < q) = Finset.Iio q := by ext; simp
  rw [this, Fin.card_Iio]

/-- A position is chosen in the first `k` rounds just when fewer than `k` positions come before it. -/
theorem chosen_iff (f : Fin n → EReal) (k : Nat) (g : Fin n) :
    (∃ q : Fin n, q.val < k ∧ pos f q = g) ↔ (Finset.univ.filter fun i => bef f i g = true).card < k := by
  obtain ⟨q, rfl⟩ := pos_surjective f g
  rw [card_bef]
  exact ⟨fun ⟨a, h, e⟩ => pos_injective f e ▸ h, fun h => ⟨q, h, rfl⟩⟩

/-- A stable sort of ascending positions by the value alone is the sort by the value and then the position. -/
theorem stableSort_gt (f : Fin n → EReal) (l : List (Fin n)) (hl : l.Pairwise (· < ·)) :
    stableSort (fun i j => decide (f j < f i)) l = stableSort (bef f) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [bef, not_lt.mpr (le_of_lt hab)]

/-- A stable sort by "greater" alone gives the same order, for it keeps equals as they stand. -/
theorem sortedFrom_gt (f : Fin n → EReal) : sortedFrom (fun i j => decide (f j < f i)) = pos f := by
  funext k
  unfold pos sortedFrom
  have e : sortPositions n (fun i j => decide (f j < f i)) = sortPositions n (bef f) :=
    stableSort_gt f (List.finRange n) (List.pairwise_lt_finRange n)
  rw [List.get_of_eq e]
  rfl

/-- The comparator of the host's top-k on extended reals. -/
theorem gt_eq (a b : EReal) : (FloatOps.cmpfTotal (F := Ideal) (φ := .f32) .gt a b == 1#1) = decide (b < a) := by
  rw [Ideal.cmpfTotal_def]
  by_cases h : b < a
  · simp [Ideal.cmp, CmpDirection.ordered, h]
  · simp [Ideal.cmp, CmpDirection.ordered, h]

/-- An index of a matrix with its last coordinate replaced. -/
theorem along2 {R N : Nat} (r : Fin R) (l k : Fin N) : (ix2 r l).along (1 : Fin 2) k = ix2 r k := by
  funext a; match a with | ⟨0, _⟩ => rfl | ⟨1, _⟩ => rfl

/-- An index of three coordinates with its last coordinate replaced. -/
theorem along3 {R G N : Nat} (r : Fin R) (g : Fin G) (l k : Fin N) : (ix3 r g l).along (2 : Fin 3) k = ix3 r g k := by
  funext a; match a with | ⟨0, _⟩ => rfl | ⟨1, _⟩ => rfl | ⟨2, _⟩ => rfl

/-- The indices of a top-k along the last axis of a matrix: row `r`'s `q`-th is the position chosen in round `q`. -/
theorem topK2_idx {R N K : Nat} (hK : K ≤ N) (x : (⟨2, ![R, N]⟩ : Shape).Idx → EReal)
    (h : (⟨2, ![R, N]⟩ : Shape).Slices (fun _ => 0) ⟨2, ![R, K]⟩) (r : Fin R) (q : Fin K) :
    (Host.topK ⟨2, ![R, K]⟩ 1 (FloatOps.cmpfTotal (F := Ideal) (φ := .f32) .gt) x h).2 (ix2 r q)
      = BitVec.ofNat 32 (pos (fun l => x (ix2 r l)) (q.castLE hK)).val := by
  have e : (fun a : Fin 2 => (⟨0 + (ix2 r q (a.cast h.1.symm)).val, Nat.lt_of_lt_of_le (Nat.add_lt_add_left (ix2 r q _).isLt _) (h.2 a)⟩ : Fin ((⟨2, ![R, N]⟩ : Shape).size a)))
      = ix2 r (q.castLE hK) := by
    funext a; match a with | ⟨0, _⟩ => exact Fin.ext (Nat.zero_add _) | ⟨1, _⟩ => exact Fin.ext (Nat.zero_add _)
  have key : ∀ l : Fin N, (Host.sort2 ⟨2, ![R, N]⟩ 1 (fun l r => FloatOps.cmpfTotal (F := Ideal) (φ := .f32) .gt l.1 r.1) x
      (fun i => iotaInDim ⟨2, ![R, N]⟩ 32 1 i)).2 (ix2 r l) = BitVec.ofNat 32 (pos (fun l => x (ix2 r l)) l).val := fun l => by
    have e2 : (fun k k' : Fin N => FloatOps.cmpfTotal (F := Ideal) (φ := .f32) .gt
        (x ((ix2 r l).along (1 : Fin 2) k)) (x ((ix2 r l).along (1 : Fin 2) k')) == 1#1)
        = fun k k' => decide (x (ix2 r k') < x (ix2 r k)) := funext fun k => funext fun k' =>
      (congrArg₂ (fun a b => FloatOps.cmpfTotal (F := Ideal) (φ := .f32) .gt a b == 1#1)
        (congrArg x (along2 r l k)) (congrArg x (along2 r l k'))).trans (gt_eq _ _)
    exact congrArg (fun z : Fin N => BitVec.ofNat 32 z.val) (congrFun ((congrArg sortedFrom e2).trans (sortedFrom_gt _)) l)
  exact (congrArg (Host.sort2 ⟨2, ![R, N]⟩ 1 (fun l r => FloatOps.cmpfTotal (F := Ideal) (φ := .f32) .gt l.1 r.1) x
      (fun i => iotaInDim ⟨2, ![R, N]⟩ 32 1 i)).2 e).trans (key _)

/-- The values of a top-k along the last of three axes. -/
theorem topK3_val {R G N K : Nat} (hK : K ≤ N) (x : (⟨3, ![R, G, N]⟩ : Shape).Idx → EReal)
    (h : (⟨3, ![R, G, N]⟩ : Shape).Slices (fun _ => 0) ⟨3, ![R, G, K]⟩) (r : Fin R) (g : Fin G) (q : Fin K) :
    (Host.topK ⟨3, ![R, G, K]⟩ 2 (FloatOps.cmpfTotal (F := Ideal) (φ := .f32) .gt) x h).1 (ix3 r g q)
      = x (ix3 r g (pos (fun l => x (ix3 r g l)) (q.castLE hK))) := by
  have e : (fun a : Fin 3 => (⟨0 + (ix3 r g q (a.cast h.1.symm)).val, Nat.lt_of_lt_of_le (Nat.add_lt_add_left (ix3 r g q _).isLt _) (h.2 a)⟩ : Fin ((⟨3, ![R, G, N]⟩ : Shape).size a)))
      = ix3 r g (q.castLE hK) := by
    funext a; match a with | ⟨0, _⟩ => exact Fin.ext (Nat.zero_add _) | ⟨1, _⟩ => exact Fin.ext (Nat.zero_add _) | ⟨2, _⟩ => exact Fin.ext (Nat.zero_add _)
  have key : ∀ l : Fin N, (Host.sort2 ⟨3, ![R, G, N]⟩ 2 (fun l r => FloatOps.cmpfTotal (F := Ideal) (φ := .f32) .gt l.1 r.1) x
      (fun i => iotaInDim ⟨3, ![R, G, N]⟩ 32 2 i)).1 (ix3 r g l) = x (ix3 r g (pos (fun l => x (ix3 r g l)) l)) := fun l => by
    have e2 : (fun k k' : Fin N => FloatOps.cmpfTotal (F := Ideal) (φ := .f32) .gt
        (x ((ix3 r g l).along (2 : Fin 3) k)) (x ((ix3 r g l).along (2 : Fin 3) k')) == 1#1)
        = fun k k' => decide (x (ix3 r g k') < x (ix3 r g k)) := funext fun k => funext fun k' =>
      (congrArg₂ (fun a b => FloatOps.cmpfTotal (F := Ideal) (φ := .f32) .gt a b == 1#1)
        (congrArg x (along3 r g l k)) (congrArg x (along3 r g l k'))).trans (gt_eq _ _)
    refine (congrArg x (along3 r g l _)).trans (congrArg (fun z : Fin N => x (ix3 r g z)) ?_)
    exact congrFun ((congrArg sortedFrom e2).trans (sortedFrom_gt _)) l
  exact (congrArg (Host.sort2 ⟨3, ![R, G, N]⟩ 2 (fun l r => FloatOps.cmpfTotal (F := Ideal) (φ := .f32) .gt l.1 r.1) x
      (fun i => iotaInDim ⟨3, ![R, G, N]⟩ 32 2 i)).1 e).trans (key _)

end Cert.Pick

end
-- ==== Proof.Two.lean ====
/-
  The two greatest of a window of values, found by doubling: the two greatest of a window of twice the width from those
  of its halves; and the two greatest as the first two positions chosen.
-/
module

public import proofs.«01_k».proof.Proof.Pick

@[expose] public section

noncomputable section

namespace Cert.Two

open Idealize.ShloMosaic Cert.Pick

/-- A row read round and round. -/
def per (v : Fin 256 → EReal) (i : Nat) : EReal := v ⟨i % 256, Nat.mod_lt _ (by decide)⟩

/-- The lane `b` lanes on from `l`, round the row. -/
def rot (b : Nat) (l : Fin 256) : Fin 256 := ⟨(l.val + b) % 256, Nat.mod_lt _ (by decide)⟩

/-- Reading round the row does not notice a whole turn. -/
theorem per_mod (v : Fin 256 → EReal) (i j : Nat) : per v (i % 256 + j) = per v (i + j) := by
  unfold per
  exact congrArg v (Fin.ext (Nat.mod_add_mod i 256 j))

/-- `m1` and `m2` are the greatest and the second greatest of the `n` values of `w` from `l` on (minus infinity where there are
    too few), said by what lies below them. -/
def Two (w : Nat → EReal) (l n : Nat) (m1 m2 : EReal) : Prop := ∀ t : EReal, t ≠ ⊥ →
  (t ≤ m1 ↔ ∃ i, i < n ∧ t ≤ w (l + i)) ∧ (t ≤ m2 ↔ ∃ i j, i < j ∧ j < n ∧ t ≤ w (l + i) ∧ t ≤ w (l + j))

/-- A window of one. -/
theorem Two.one (w : Nat → EReal) (l : Nat) : Two w l 1 (w l) ⊥ := fun t ht =>
  ⟨⟨fun h => ⟨0, Nat.one_pos, h⟩, fun ⟨i, hi, h⟩ => h.trans_eq (congrArg w (show l + i = l by omega))⟩,
    ⟨fun h => absurd (le_bot_iff.mp h) ht, fun ⟨i, j, h1, h2, _⟩ => by omega⟩⟩

/-- Two windows side by side. -/
theorem Two.join {w : Nat → EReal} {l n : Nat} {a1 a2 b1 b2 : EReal} (ha : Two w l n a1 a2) (hb : Two w (l + n) n b1 b2) :
    Two w l (n + n) (max a1 b1) (max (min a1 b1) (max a2 b2)) := fun t ht => by
  obtain ⟨ha1, ha2⟩ := ha t ht
  obtain ⟨hb1, hb2⟩ := hb t ht
  simp only [le_max_iff, le_min_iff, ha1, ha2, hb1, hb2]
  constructor
  · constructor
    · rintro (⟨i, hi, h⟩ | ⟨i, hi, h⟩)
      · exact ⟨i, by omega, h⟩
      · exact ⟨n + i, by omega, by rw [← Nat.add_assoc]; exact h⟩
    · rintro ⟨i, hi, h⟩
      by_cases hin : i < n
      · exact .inl ⟨i, hin, h⟩
      · exact .inr ⟨i - n, by omega, by rw [show l + n + (i - n) = l + i by omega]; exact h⟩
  · constructor
    · rintro (⟨⟨i, hi, h⟩, ⟨j, hj, h'⟩⟩ | ⟨i, j, hij, hj, h, h'⟩ | ⟨i, j, hij, hj, h, h'⟩)
      · exact ⟨i, n + j, by omega, by omega, h, by rw [← Nat.add_assoc]; exact h'⟩
      · exact ⟨i, j, hij, by omega, h, h'⟩
      · exact ⟨n + i, n + j, by omega, by omega, by rw [← Nat.add_assoc]; exact h, by rw [← Nat.add_assoc]; exact h'⟩
    · rintro ⟨i, j, hij, hj, h, h'⟩
      by_cases hjn : j < n
      · exact .inr (.inl ⟨i, j, hij, hjn, h, h'⟩)
      · by_cases hin : i < n
        · exact .inl ⟨⟨i, hin, h⟩, ⟨j - n, by omega, by rw [show l + n + (j - n) = l + j by omega]; exact h'⟩⟩
        · exact .inr (.inr ⟨i - n, j - n, by omega, by omega, by rw [show l + n + (i - n) = l + i by omega]; exact h,
            by rw [show l + n + (j - n) = l + j by omega]; exact h'⟩)

/-- A value is known by what lies below it. -/
theorem eq_of_below {a b : EReal} (h : ∀ t : EReal, t ≠ ⊥ → (t ≤ a ↔ t ≤ b)) : a = b := by
  apply le_antisymm
  · by_cases ha : a = ⊥
    · rw [ha]; exact bot_le
    · exact (h a ha).mp le_rfl
  · by_cases hb : b = ⊥
    · rw [hb]; exact bot_le
    · exact (h b hb).mpr le_rfl

/-- The two greatest are determined. -/
theorem Two.unique {w : Nat → EReal} {l n : Nat} {a1 a2 b1 b2 : EReal} (ha : Two w l n a1 a2) (hb : Two w l n b1 b2) :
    a1 = b1 ∧ a2 = b2 :=
  ⟨eq_of_below fun t ht => (ha t ht).1.trans (hb t ht).1.symm, eq_of_below fun t ht => (ha t ht).2.trans (hb t ht).2.symm⟩

/-- One doubling, the second window's values fetched round the row. -/
theorem Two.step {v m1 m2 : Fin 256 → EReal} {n : Nat} (h : ∀ l : Fin 256, Two (per v) l.val n (m1 l) (m2 l)) (l : Fin 256) :
    Two (per v) l.val (n + n) (max (m1 l) (m1 (rot n l))) (max (min (m1 l) (m1 (rot n l))) (max (m2 l) (m2 (rot n l)))) := by
  refine (h l).join ?_
  have h' := h (rot n l)
  intro t ht
  have := h' t ht
  simpa only [rot, per_mod] using this

/-- The first two positions chosen hold the two greatest. -/
theorem Two.of_pos {N : Nat} (w : Nat → EReal) (l : Nat) (f : Fin (N + 2) → EReal) (hf : ∀ i, f i = w (l + i.val)) :
    Two w l (N + 2) (f (pos f 0)) (f (pos f 1)) := fun t ht => by
  constructor
  · constructor
    · intro h; exact ⟨(pos f 0).val, (pos f 0).isLt, by rw [← hf]; exact h⟩
    · rintro ⟨i, hi, h⟩
      obtain ⟨q, hq⟩ := pos_surjective f ⟨i, hi⟩
      have e : f (pos f q) = w (l + i) := (congrArg f hq).trans (hf ⟨i, hi⟩)
      exact (h.trans_eq e.symm).trans (val_pos_le (Fin.zero_le q))
  · constructor
    · intro h
      have h0 : t ≤ f (pos f 0) := h.trans (val_pos_le (Fin.zero_le _))
      have hne : pos f 0 ≠ pos f 1 := fun e => by
        have := pos_injective f e
        exact absurd this (by simp)
      rcases lt_or_gt_of_ne hne with hlt | hlt
      · exact ⟨(pos f 0).val, (pos f 1).val, hlt, (pos f 1).isLt, by rw [← hf]; exact h0, by rw [← hf]; exact h⟩
      · exact ⟨(pos f 1).val, (pos f 0).val, hlt, (pos f 0).isLt, by rw [← hf]; exact h, by rw [← hf]; exact h0⟩
    · rintro ⟨i, j, hij, hj, h, h'⟩
      have hi : i < N + 2 := by omega
      obtain ⟨q, hq⟩ := pos_surjective f ⟨i, hi⟩
      obtain ⟨p, hp⟩ := pos_surjective f ⟨j, hj⟩
      have e1 : f (pos f q) = w (l + i) := (congrArg f hq).trans (hf ⟨i, hi⟩)
      have e2 : f (pos f p) = w (l + j) := (congrArg f hp).trans (hf ⟨j, hj⟩)
      have hqp : q ≠ p := fun e => by
        rw [e, hp] at hq
        exact absurd (congrArg Fin.val hq) (by simp; omega)
      by_cases hq0 : q = 0
      · have : (1 : Fin (N + 2)) ≤ p := Fin.one_le_of_ne_zero fun e => hqp (hq0.trans e.symm)
        exact (h'.trans_eq e2.symm).trans (val_pos_le this)
      · exact (h.trans_eq e1.symm).trans (val_pos_le (Fin.one_le_of_ne_zero hq0))

end Cert.Two

end
-- ==== Proof.Spec.lean ====
/-
  The gate of one row, in plain mathematics: from the row's affinities and its corrected scores, the groups kept, the
  candidates left, the experts chosen and their weights.
-/
module

public import proofs.«01_k».proof.Proof.Two

@[expose] public section

noncomputable section

namespace Cert.Spec

open Idealize.ShloMosaic Cert.Pick

/-- Lane `i` of group `g`. -/
def lane (g : Fin 8) (i : Fin 32) : Fin 256 := ⟨32 * g.val + i.val, by omega⟩
/-- The group of a lane. -/
def grp (l : Fin 256) : Fin 8 := ⟨l.val / 32, by omega⟩

/-- The scores of one group. -/
def part (s : Fin 256 → EReal) (g : Fin 8) (i : Fin 32) : EReal := s (lane g i)

/-- A group's score: the sum of its two greatest scores. -/
def gsum (s : Fin 256 → EReal) (g : Fin 8) : EReal := part s g (pos (part s g) 0) + part s g (pos (part s g) 1)

/-- A group is kept when it is among the first four chosen. -/
def Kept (s : Fin 256 → EReal) (g : Fin 8) : Prop := ∃ q : Fin 8, q.val < 4 ∧ pos (gsum s) q = g

open Classical in
/-- The candidates: the scores of the groups kept, minus infinity elsewhere. -/
def cand (s : Fin 256 → EReal) (l : Fin 256) : EReal := if Kept s (grp l) then s l else ⊥

/-- The expert chosen in round `q`. -/
def expert (s : Fin 256 → EReal) (q : Fin 8) : Fin 256 := pos (cand s) (q.castLE (by decide))

/-- With no score at minus infinity, none of the eight experts chosen is a lane left out. -/
theorem cand_expert_ne {s : Fin 256 → EReal} (hs : ∀ l, s l ≠ ⊥) (q : Fin 8) : cand s (expert s q) ≠ ⊥ := by
  intro hbot
  classical
  -- a group is kept
  have hk : Kept s (pos (gsum s) 0) := ⟨0, by decide, rfl⟩
  -- its lanes are all chosen in the rounds before `q`
  have hlt : ∀ i : Fin 32, ∃ p : Fin 256, p.val < q.val ∧ pos (cand s) p = lane (pos (gsum s) 0) i := fun i => by
    obtain ⟨p, hp⟩ := pos_surjective (cand s) (lane (pos (gsum s) 0) i)
    refine ⟨p, ?_, hp⟩
    by_contra hge
    have hle := val_pos_le (f := cand s) (show (q.castLE (by decide) : Fin 256) ≤ p from not_lt.mp hge)
    have hb : cand s (pos (cand s) (q.castLE (by decide))) = ⊥ := hbot
    rw [hb, hp, le_bot_iff] at hle
    have hg : grp (lane (pos (gsum s) 0) i) = pos (gsum s) 0 := Fin.ext (by simp only [grp, lane]; omega)
    unfold cand at hle
    rw [hg, if_pos hk] at hle
    exact hs _ hle
  choose p hp1 hp2 using hlt
  have hinj : Function.Injective fun i : Fin 32 => (⟨(p i).val, (hp1 i).trans q.isLt⟩ : Fin 8) := fun i j e => by
    have e1 : p i = p j := Fin.ext (by simpa using e)
    have := (hp2 i).symm.trans ((congrArg _ e1).trans (hp2 j))
    exact Fin.ext (by have := congrArg Fin.val this; simp only [lane] at this; omega)
  have := Fintype.card_le_of_injective _ hinj
  simp at this

/-- The weight of round `q`: the affinity of its expert over the sum of the eight, scaled. -/
def weight (sig s : Fin 256 → EReal) (scale : EReal) (q : Fin 8) : EReal :=
  Ideal.div (sig (expert s q)) (∑ p : Fin 8, sig (expert s p)) * scale

end Cert.Spec

end
-- ==== Proof.Turn.lean ====
/-
  A block's rows turned round: a row cut in two and put together the other way about is the row read some lanes on.  From it the
  score of each group at the group's first lane.
-/
module

public import proofs.«01_k».proof.Proof.GateFn
public import proofs.«01_k».proof.Proof.Spec
public import Idealize.ShloMosaic.Lib.Pointwise

@[expose] public section

set_option maxRecDepth 16384

noncomputable section

namespace Cert.Gate

open Cert.KernelIdeal Cert.KernelIdeal.Gen
open Idealize.ShloMosaic Cert.Two Cert.Spec Cert.Pick

/-- A row of a block. -/
def row (x : FVec Ideal S512x256 .f32) (r : Fin 512) (l : Fin 256) : EReal := x (ix2 r l)

/-- The block with each row read `b` lanes on. -/
def turn (b : Nat) (x : FVec Ideal S512x256 .f32) : FVec Ideal S512x256 .f32 := fun j => x (ix2 (j 0) (rot b (j 1)))

/-- A row of the turned block. -/
theorem row_turn (b : Nat) (x : FVec Ideal S512x256 .f32) (r : Fin 512) (l : Fin 256) : row (turn b x) r l = row x r (rot b l) := rfl

/-- The lanes from `b` on put before the first `b` is the block turned by `b`. -/
theorem turned {a b : Nat} (hab : a + b = 256) (x : FVec Ideal S512x256 .f32) (h1 : S512x256.Slices ![0, b] ⟨2, ![512, a]⟩)
    (h2 : S512x256.Slices ![0, 0] ⟨2, ![512, b]⟩) (h : Shape.Concatenates [⟨2, ![512, a]⟩, ⟨2, ![512, b]⟩] S512x256 1) :
    concatenate S512x256 1 [⟨⟨2, ![512, a]⟩, extractStridedSlice ⟨2, ![512, a]⟩ ![0, b] x h1⟩,
      ⟨⟨2, ![512, b]⟩, extractStridedSlice ⟨2, ![512, b]⟩ ![0, 0] x h2⟩] h = turn b x := by
  funext j
  rw [concatenate_pair_apply]
  unfold turn
  have hj : (j 1).val < 256 := (j 1).isLt
  split
  · rename_i hlt
    have hlt' : (j 1).val < a := hlt
    refine extractStridedSlice_apply _ x h1 _ _ fun d => ?_
    match d with
    | 0 => exact (Nat.zero_add _).symm
    | 1 =>
      show ((j 1).val + b) % 256 = b + (j 1).val
      rw [Nat.mod_eq_of_lt (by omega)]; omega
  · rename_i hlt
    have hlt' : ¬ (j 1).val < a := hlt
    refine extractStridedSlice_apply _ x h2 _ _ fun d => ?_
    match d with
    | 0 => exact (Nat.zero_add _).symm
    | 1 =>
      show ((j 1).val + b) % 256 = 0 + ((j 1).val - a)
      omega

/-- The turn by 1. -/
theorem turned1 (x : FVec Ideal S512x256 .f32) (h1 h2 h) : concatenate S512x256 1 [⟨S512x255, extractStridedSlice S512x255 ![0, 1] x h1⟩,
    ⟨S512x1, extractStridedSlice S512x1 ![0, 0] x h2⟩] h = turn 1 x := turned (by decide) x h1 h2 h
/-- The turn by 2. -/
theorem turned2 (x : FVec Ideal S512x256 .f32) (h1 h2 h) : concatenate S512x256 1 [⟨S512x254, extractStridedSlice S512x254 ![0, 2] x h1⟩,
    ⟨S512x2, extractStridedSlice S512x2 ![0, 0] x h2⟩] h = turn 2 x := turned (by decide) x h1 h2 h
/-- The turn by 4. -/
theorem turned4 (x : FVec Ideal S512x256 .f32) (h1 h2 h) : concatenate S512x256 1 [⟨S512x252, extractStridedSlice S512x252 ![0, 4] x h1⟩,
    ⟨S512x4, extractStridedSlice S512x4 ![0, 0] x h2⟩] h = turn 4 x := turned (by decide) x h1 h2 h
/-- The turn by 8. -/
theorem turned8 (x : FVec Ideal S512x256 .f32) (h1 h2 h) : concatenate S512x256 1 [⟨S512x248, extractStridedSlice S512x248 ![0, 8] x h1⟩,
    ⟨S512x8, extractStridedSlice S512x8 ![0, 0] x h2⟩] h = turn 8 x := turned (by decide) x h1 h2 h
/-- The turn by 16. -/
theorem turned16 (x : FVec Ideal S512x256 .f32) (h1 h2 h) : concatenate S512x256 1 [⟨S512x240, extractStridedSlice S512x240 ![0, 16] x h1⟩,
    ⟨S512x16, extractStridedSlice S512x16 ![0, 0] x h2⟩] h = turn 16 x := turned (by decide) x h1 h2 h

/-- The greater of two windows' greatest, the second window `n` lanes on. -/
def first (n : Nat) (m1 : FVec Ideal S512x256 .f32) : FVec Ideal S512x256 .f32 := maximumf m1 (turn n m1)
/-- The second greatest of two windows, the second window `n` lanes on. -/
def second (n : Nat) (m1 m2 : FVec Ideal S512x256 .f32) : FVec Ideal S512x256 .f32 :=
  maximumf (minimumf m1 (turn n m1)) (maximumf m2 (turn n m2))

/-- One doubling of the windows. -/
theorem two_vec {v : Fin 256 → EReal} {r : Fin 512} {n : Nat} {m1 m2 : FVec Ideal S512x256 .f32}
    (h : ∀ l : Fin 256, Two (per v) l.val n (row m1 r l) (row m2 r l)) (l : Fin 256) :
    Two (per v) l.val (n + n) (row (first n m1) r l) (row (second n m1 m2) r l) := Two.step h l

variable (sc : Vec Ideal S1x512x256 .f32) (b : Vec Ideal S1x256 .f32)

/-- The constant that stands for minus infinity. -/
def low : FVec Ideal S512x256 .f32 := broadcast S512x256 (Named.named (F := Ideal) κ "neg" (φ := .f32) 0xF149F2CA#32)

/-- It reads minus infinity. -/
theorem low_apply (j : S512x256.Idx) : low j = (⊥ : EReal) := IdealRules.named_const.ideal_named_scalar κ "neg" _ ⊥ rfl

/-- The five doublings. -/
theorem groupScore_eq : groupScore sc b =
    (let x := k0_pay6 sc b
     let a1 := first 1 x; let c1 := second 1 x low
     let a2 := first 2 a1; let c2 := second 2 a1 c1
     let a3 := first 4 a2; let c3 := second 4 a2 c2
     let a4 := first 8 a3; let c4 := second 8 a3 c3
     addf (first 16 a4) (second 16 a4 c4)) := by
  unfold groupScore k0_pay14 k0_pay11 k0_pay12 k0_pay13 k0_pay10 k0_pay9 k0_pay8
  simp only [turned1, turned2, turned4, turned8, turned16]
  rfl

/-- At a group's first lane stands the sum of the group's two greatest scores. -/
theorem groupScore_apply (r : Fin 512) (g : Fin 8) :
    row (groupScore sc b) r (Spec.lane g 0) = gsum (row (k0_pay6 sc b) r) g := by
  rw [groupScore_eq]
  set x := k0_pay6 sc b
  have h0 : ∀ l : Fin 256, Two (per (row x r)) l.val 1 (row x r l) (row low r l) := fun l => by
    have : row low r l = (⊥ : EReal) := low_apply _
    rw [this]
    have e : row x r l = per (row x r) l.val := congrArg (row x r) (Fin.ext (Nat.mod_eq_of_lt l.isLt).symm)
    rw [e]
    exact Two.one _ _
  have h5 := two_vec (two_vec (two_vec (two_vec (two_vec h0)))) (Spec.lane g 0)
  have hp := Two.of_pos (N := 30) (per (row x r)) (Spec.lane g 0).val (part (row x r) g) fun i =>
    congrArg (row x r) (Fin.ext (by
      have := g.isLt; have := i.isLt
      simp only [Spec.lane, Fin.val_zero]
      omega))
  obtain ⟨e1, e2⟩ := Two.unique h5 hp
  exact congrArg₂ (fun a b : EReal => a + b) e1 e2

end Cert.Gate

end
-- ==== Proof.Rounds.lean ====
/-
  The eight rounds of selection: in each, the least lane among those of the greatest candidate, with its affinity, is found as
  one number, and the lane is struck out.
-/
module

public import proofs.«01_k».proof.Proof.Turn

@[expose] public section

set_option maxRecDepth 16384

noncomputable section

namespace Cert.Gate

open Cert.KernelIdeal Cert.KernelIdeal.Gen
open Idealize.ShloMosaic Cert.Two Cert.Spec Cert.Pick

attribute [local irreducible] pos

/-! ### On one row -/

open Classical in
/-- The candidates with the first `t` chosen struck out. -/
def struck (f : Fin 256 → EReal) (t : Nat) (l : Fin 256) : EReal := if ∃ j : Fin 256, j.val < t ∧ pos f j = l then ⊥ else f l

/-- Before the first round nothing is struck out. -/
theorem struck_zero (f : Fin 256 → EReal) (l : Fin 256) : struck f 0 l = f l := if_neg (by simp)

/-- The place of the next chosen is not struck out. -/
theorem struck_pos (f : Fin 256 → EReal) (t : Fin 256) : struck f t.val (pos f t) = f (pos f t) :=
  if_neg fun ⟨j, hj, e⟩ => by
    have := pos_injective f e
    rw [this] at hj
    exact lt_irrefl _ hj

/-- Striking out one more. -/
theorem struck_succ (f : Fin 256 → EReal) (t : Fin 256) (l : Fin 256) :
    struck f (t.val + 1) l = if l = pos f t then ⊥ else struck f t.val l := by
  classical
  unfold struck
  by_cases hl : l = pos f t
  · rw [if_pos hl, if_pos ⟨t, Nat.lt_succ_self _, hl.symm⟩]
  · rw [if_neg hl]
    congr 1
    refine propext ⟨fun ⟨j, hj, e⟩ => ⟨j, ?_, e⟩, fun ⟨j, hj, e⟩ => ⟨j, by omega, e⟩⟩
    rcases Nat.lt_succ_iff_lt_or_eq.mp hj with h | h
    · exact h
    · exact absurd (by rw [← e, Fin.ext h]) hl

/-- What is left is minus infinity or was not chosen before. -/
theorem struck_cases (f : Fin 256 → EReal) (t l : Fin 256) : struck f t.val l = ⊥ ∨ ∃ p : Fin 256, t ≤ p ∧ l = pos f p ∧ struck f t.val l = f l := by
  classical
  unfold struck
  obtain ⟨p, hp⟩ := pos_surjective f l
  by_cases h : ∃ j : Fin 256, j.val < t.val ∧ pos f j = l
  · exact .inl (if_pos h)
  · exact .inr ⟨p, not_lt.mp fun hlt => h ⟨p, hlt, hp⟩, hp.symm, if_neg h⟩

/-- The greatest left is the next chosen. -/
theorem max_struck (f : Fin 256 → EReal) (t : Fin 256) : (Finset.univ.fold max ⊥ fun l => struck f t.val l) = f (pos f t) := by
  apply le_antisymm
  · rw [Finset.fold_max_le]
    refine ⟨bot_le, fun l _ => ?_⟩
    rcases struck_cases f t l with h | ⟨p, hp, rfl, h⟩
    · rw [h]; exact bot_le
    · rw [h]; exact val_pos_le hp
  · rw [Finset.le_fold_max]
    exact Or.inr ⟨pos f t, Finset.mem_univ _, le_of_eq (struck_pos f t).symm⟩

/-- The least key among the lanes of the greatest left is the next chosen's. -/
theorem min_struck (f : Fin 256 → EReal) (t : Fin 256) (ht : f (pos f t) ≠ ⊥) (σ : Fin 256 → ℝ) (h0 : ∀ l, 0 ≤ σ l) (h1 : ∀ l, σ l ≤ 1)
    (big : EReal) (hbig : ((257 : ℝ) : EReal) ≤ big) [∀ l, Decidable (struck f t.val l = f (pos f t))] :
    (Finset.univ.fold min ⊤ fun l : Fin 256 => if struck f t.val l = f (pos f t) then (((l.val : ℝ) + σ l / 2 : ℝ) : EReal) else big)
      = ((((pos f t).val : ℝ) + σ (pos f t) / 2 : ℝ) : EReal) := by
  apply le_antisymm
  · rw [Finset.fold_min_le]
    exact .inr ⟨pos f t, Finset.mem_univ _, by rw [if_pos (struck_pos f t)]⟩
  · rw [Finset.le_fold_min]
    refine ⟨le_top, fun l _ => ?_⟩
    split
    · rename_i h
      rcases struck_cases f t l with hb | ⟨p, hp, hl, hv⟩
      · exact absurd (h.symm.trans hb) ht
      · rw [EReal.coe_le_coe_iff]
        rcases eq_or_lt_of_le hp with rfl | hlt
        · rw [hl]
        · have hb := bef_pos hlt (f := f)
          rw [bef_iff, ← hl, ← hv, h] at hb
          have hlt' : pos f t < l := hb.elim (fun h => absurd h (lt_irrefl _)) (fun h => h.2)
          have hc : ((pos f t).val : ℝ) + 1 ≤ l.val := by exact_mod_cast hlt'
          have := h0 l; have := h1 (pos f t)
          linarith
    · refine le_trans ?_ hbig
      rw [EReal.coe_le_coe_iff]
      have hc : ((pos f t).val : ℝ) ≤ 255 := by exact_mod_cast Nat.le_of_lt_succ (pos f t).isLt
      have := h1 (pos f t)
      linarith

/-! ### On the block -/

/-- A column of a block. -/
def col (x : FVec Ideal S512x1 .f32) (r : Fin 512) : EReal := x (ix2 r 0)

/-- The least key among the lanes that hold a row's greatest candidate. -/
def key (kv cur : FVec Ideal S512x256 .f32) : FVec Ideal S512x1 .f32 :=
  shapeCast S512x1 (multiReduction .minimumf [1] S512 (select (cmpf .oeq cur (broadcastTo S512x256
    (shapeCast S512x1 (multiReduction .maximumf [1] S512 cur 0xFF800000#32 reduces_S512x256_S512 (.inl rfl) rfl) shapeCasts_S512_S512x1)
    broadcasts_S512x1_S512x256)) kv (broadcast S512x256 (Scalar.ofBits .f32 0x4E6E6B28#32))) 0x7F800000#32 reduces_S512x256_S512 (.inl rfl) rfl)
    shapeCasts_S512_S512x1

/-- The lane of a key. -/
def ixOf (kv cur : FVec Ideal S512x256 .f32) : FVec Ideal S512x1 .f32 := floor (key kv cur)
/-- The affinity of a key. -/
def wtOf (kv cur : FVec Ideal S512x256 .f32) : FVec Ideal S512x1 .f32 :=
  mulf (subf (key kv cur) (ixOf kv cur)) (broadcast S512x1 (Scalar.ofBits .f32 0x40000000#32))
/-- The candidates with the key's lane struck out. -/
def strike (kv cur : FVec Ideal S512x256 .f32) : FVec Ideal S512x256 .f32 :=
  select (cmpf .oeq lanef (broadcastTo S512x256 (ixOf kv cur) broadcasts_S512x1_S512x256)) low cur

/-- The key of a row: the least `lane + sigmoid / 2` of the lanes that hold the row's maximum. -/
theorem key_apply (kv cur : FVec Ideal S512x256 .f32) (r : Fin 512) :
    col (key kv cur) r = Finset.univ.fold min (Ideal.ofBits .f32 0x7F800000#32) fun l : Fin 256 =>
      Scalar.select (Ideal.cmp .oeq (row cur r l) (Finset.univ.fold max (Ideal.ofBits .f32 0xFF800000#32) fun l : Fin 256 => row cur r l))
        (row kv r l) (Ideal.ofBits .f32 0x4E6E6B28#32) := by
  unfold col key row
  pointwise

/-- Striking out: the lane found becomes minus infinity, the others stay. -/
theorem strike_apply (kv cur : FVec Ideal S512x256 .f32) (r : Fin 512) (l : Fin 256) :
    row (strike kv cur) r l = Scalar.select (Ideal.cmp .oeq (((lane (ix2 r l)).toInt : ℝ) : EReal) (col (ixOf kv cur) r)) (⊥ : EReal) (row cur r l) := by
  rw [show (⊥ : EReal) = low (ix2 r l) from (low_apply _).symm]
  rw [show (((lane (ix2 r l)).toInt : ℝ) : EReal) = FloatOps.sitofp (F := Ideal) .f32 (lane (ix2 r l)) from rfl]
  unfold row strike col lanef k0_pay20
  pointwise

end Cert.Gate

end
-- ==== Proof.Round.lean ====
/-
  One round of selection on a block: the key found is that of the next expert, so that its whole part is the expert's number, its
  fraction half the affinity, and the candidates left are those with the expert struck out.
-/
module

public import proofs.«01_k».proof.Proof.Rounds

@[expose] public section

set_option maxRecDepth 16384

noncomputable section

namespace Cert.Gate

open Cert.KernelIdeal Cert.KernelIdeal.Gen
open Idealize.ShloMosaic Cert.Two Cert.Spec Cert.Pick

attribute [local irreducible] pos key Finset.fold

/-- The word of plus infinity. -/
theorem bits_top : Ideal.ofBits .f32 0x7F800000#32 = (⊤ : EReal) := by simp [Ideal.ofBits, Ideal.ieee]
/-- The word of minus infinity. -/
theorem bits_bot : Ideal.ofBits .f32 0xFF800000#32 = (⊥ : EReal) := by simp [Ideal.ofBits, Ideal.ieee]
/-- The word of one half. -/
theorem bits_half : Ideal.ofBits .f32 0x3F000000#32 = ((1 / 2 : ℝ) : EReal) := by
  simp [Ideal.ofBits, Ideal.ieee, -EReal.coe_mul]; norm_num
/-- The word of two. -/
theorem bits_two : Ideal.ofBits .f32 0x40000000#32 = ((2 : ℝ) : EReal) := by
  simp [Ideal.ofBits, Ideal.ieee, -EReal.coe_mul]; norm_num
/-- The word of 1e9. -/
theorem bits_big : Ideal.ofBits .f32 0x4E6E6B28#32 = ((1000000000 : ℝ) : EReal) := by
  simp [Ideal.ofBits, Ideal.ieee, -EReal.coe_mul]; norm_num

/-- A choice by an equality test. -/
theorem select_oeq (x y a b : EReal) [Decidable (x = y)] : Scalar.select (Ideal.cmp .oeq x y) a b = if x = y then a else b := by
  by_cases h : x = y <;> simp [Scalar.select, Ideal.cmp, h]

/-- The whole part of a lane's number and at most a half is the lane's number. -/
theorem floor_key (n : Nat) (a : ℝ) (h0 : 0 ≤ a) (h1 : a ≤ 1) :
    Ideal.liftRound Int.floor (((n : ℝ) + a / 2 : ℝ) : EReal) = ((n : ℝ) : EReal) := by
  have hf : ⌊(n : ℝ) + a / 2⌋ = (n : ℤ) := by
    rw [Int.floor_eq_iff]
    constructor
    · push_cast; linarith
    · push_cast; linarith
  show ((⌊(n : ℝ) + a / 2⌋ : ℝ) : EReal) = _
  rw [hf]; norm_cast

/-- The lane found is the key rounded down. -/
theorem col_ixOf (kv cur : FVec Ideal S512x256 .f32) (r : Fin 512) :
    col (ixOf kv cur) r = Ideal.liftRound Int.floor (col (key kv cur) r) := rfl

/-- The affinity found is twice what the key exceeds the lane's number by. -/
theorem col_wtOf (kv cur : FVec Ideal S512x256 .f32) (r : Fin 512) :
    col (wtOf kv cur) r = (col (key kv cur) r - col (ixOf kv cur) r) * Ideal.ofBits .f32 0x40000000#32 := rfl

/-- What holds of a row before round `t`: the first `t` chosen are struck out of the candidates. -/
def At (f : Fin 256 → EReal) (r : Fin 512) (cur : FVec Ideal S512x256 .f32) (t : Nat) : Prop := ∀ l, row cur r l = struck f t l

section
variable {f : Fin 256 → EReal} {r : Fin 512} {kv cur : FVec Ideal S512x256 .f32} {t : Fin 256} {σ : Fin 256 → ℝ}
  (hk : ∀ l : Fin 256, row kv r l = ((((l.val : ℝ) + σ l / 2 : ℝ)) : EReal)) (h0 : ∀ l, 0 ≤ σ l) (h1 : ∀ l, σ l ≤ 1)
  (hc : At f r cur t.val) (ht : f (pos f t) ≠ ⊥)
include hk h0 h1 hc ht

/-- The key found is the next expert's. -/
theorem key_eq : col (key kv cur) r = ((((pos f t).val : ℝ) + σ (pos f t) / 2 : ℝ) : EReal) := by
  classical
  rw [key_apply, bits_top, bits_bot, bits_big]
  rw [show (fun l : Fin 256 => row cur r l) = struck f t.val from funext hc]
  rw [show Finset.univ.fold max ⊥ (struck f t.val) = f (pos f t) from max_struck f t]
  simp only [hc _, hk, select_oeq]
  exact min_struck f t ht σ h0 h1 _ (by rw [EReal.coe_le_coe_iff]; norm_num)

/-- Its whole part is the expert's number. -/
theorem ix_eq : col (ixOf kv cur) r = (((pos f t).val : ℝ) : EReal) := by
  rw [col_ixOf, key_eq hk h0 h1 hc ht, floor_key _ _ (h0 _) (h1 _)]

/-- Its fraction doubled is the expert's affinity. -/
theorem wt_eq : col (wtOf kv cur) r = ((σ (pos f t) : ℝ) : EReal) := by
  rw [col_wtOf, key_eq hk h0 h1 hc ht, ix_eq hk h0 h1 hc ht, bits_two, ← EReal.coe_sub, ← EReal.coe_mul]
  congr 1
  ring

/-- The candidates left have the expert struck out. -/
theorem strike_eq : At f r (strike kv cur) (t.val + 1) := fun l => by
  classical
  rw [strike_apply, ix_eq hk h0 h1 hc ht, hc l, struck_succ, select_oeq, show lane (ix2 r l) = BitVec.ofNat 32 l.val by unfold lane; pointwise]
  have hl := l.isLt
  have h2 : (BitVec.ofNat 32 l.val).toInt = l.val := by
    rw [BitVec.toInt_eq_toNat_of_lt (by rw [BitVec.toNat_ofNat]; omega), BitVec.toNat_ofNat, Nat.mod_eq_of_lt (by omega)]
  rw [h2]
  have : ((((l.val : ℤ) : ℝ) : EReal) = (((pos f t).val : ℝ) : EReal)) ↔ l = pos f t := by
    rw [EReal.coe_eq_coe_iff]
    exact ⟨fun h => Fin.ext (by exact_mod_cast h), fun h => by rw [h]; norm_cast⟩
  by_cases h : l = pos f t
  · rw [if_pos h, if_pos (this.mpr h)]
  · rw [if_neg h, if_neg (fun h' => h (this.mp h'))]

end

/-- The candidates before each round. -/
def left (kv cur : FVec Ideal S512x256 .f32) : Nat → FVec Ideal S512x256 .f32
  | 0 => cur
  | t + 1 => strike kv (left kv cur t)

/-- Before each of the rounds that have a candidate, those chosen so far are struck out. -/
theorem left_at {f : Fin 256 → EReal} {r : Fin 512} {kv cur : FVec Ideal S512x256 .f32} {σ : Fin 256 → ℝ}
    (hk : ∀ l : Fin 256, row kv r l = ((((l.val : ℝ) + σ l / 2 : ℝ)) : EReal)) (h0 : ∀ l, 0 ≤ σ l) (h1 : ∀ l, σ l ≤ 1)
    (hc : ∀ l, row cur r l = f l) (hb : ∀ q : Fin 8, f (pos f (q.castLE (by decide))) ≠ ⊥) : ∀ t, t < 8 → At f r (left kv cur t) t
  | 0, _ => fun l => (hc l).trans (struck_zero f l).symm
  | t + 1, h => strike_eq (t := ⟨t, by omega⟩) hk h0 h1 (left_at hk h0 h1 hc hb t (by omega)) (hb ⟨t, by omega⟩)

end Cert.Gate

end
-- ==== Proof.Rank.lean ====
/-
  Which groups are kept: the seven comparisons with the other groups count those chosen before, and a group with fewer than
  four before it is marked.
-/
module

public import proofs.«01_k».proof.Proof.Turn

@[expose] public section

set_option maxRecDepth 16384

noncomputable section

namespace Cert.Gate

open Cert.KernelIdeal Cert.KernelIdeal.Gen
open Idealize.ShloMosaic Cert.Two Cert.Spec Cert.Pick

/-- The turn by 32 lanes. -/
theorem turned32 (x : FVec Ideal S512x256 .f32) (h1 h2 h) : concatenate S512x256 1 [⟨S512x224, extractStridedSlice S512x224 ![0, 32] x h1⟩,
    ⟨S512x32, extractStridedSlice S512x32 ![0, 0] x h2⟩] h = turn 32 x := turned (by decide) x h1 h2 h
/-- The turn by 64 lanes. -/
theorem turned64 (x : FVec Ideal S512x256 .f32) (h1 h2 h) : concatenate S512x256 1 [⟨S512x192, extractStridedSlice S512x192 ![0, 64] x h1⟩,
    ⟨S512x64, extractStridedSlice S512x64 ![0, 0] x h2⟩] h = turn 64 x := turned (by decide) x h1 h2 h
/-- The turn by 96 lanes. -/
theorem turned96 (x : FVec Ideal S512x256 .f32) (h1 h2 h) : concatenate S512x256 1 [⟨S512x160, extractStridedSlice S512x160 ![0, 96] x h1⟩,
    ⟨S512x96, extractStridedSlice S512x96 ![0, 0] x h2⟩] h = turn 96 x := turned (by decide) x h1 h2 h
/-- The turn by 128 lanes. -/
theorem turned128 (x : FVec Ideal S512x256 .f32) (h1 h2 h) : concatenate S512x256 1 [⟨S512x128, extractStridedSlice S512x128 ![0, 128] x h1⟩,
    ⟨S512x128, extractStridedSlice S512x128 ![0, 0] x h2⟩] h = turn 128 x := turned (by decide) x h1 h2 h
/-- The turn by 160 lanes. -/
theorem turned160 (x : FVec Ideal S512x256 .f32) (h1 h2 h) : concatenate S512x256 1 [⟨S512x96, extractStridedSlice S512x96 ![0, 160] x h1⟩,
    ⟨S512x160, extractStridedSlice S512x160 ![0, 0] x h2⟩] h = turn 160 x := turned (by decide) x h1 h2 h
/-- The turn by 192 lanes. -/
theorem turned192 (x : FVec Ideal S512x256 .f32) (h1 h2 h) : concatenate S512x256 1 [⟨S512x64, extractStridedSlice S512x64 ![0, 192] x h1⟩,
    ⟨S512x192, extractStridedSlice S512x192 ![0, 0] x h2⟩] h = turn 192 x := turned (by decide) x h1 h2 h
/-- The turn by 224 lanes. -/
theorem turned224 (x : FVec Ideal S512x256 .f32) (h1 h2 h) : concatenate S512x256 1 [⟨S512x32, extractStridedSlice S512x32 ![0, 224] x h1⟩,
    ⟨S512x224, extractStridedSlice S512x224 ![0, 0] x h2⟩] h = turn 224 x := turned (by decide) x h1 h2 h

/-- One where the value `d` lanes on is chosen before the lane's own, an equal one counting from lane `t` on; else nought. -/
def beats (d t : Nat) (x : FVec Ideal S512x256 .f32) : FVec Ideal S512x256 .f32 :=
  sitofp .f32 (extui 32 (ori (cmpf .ogt (turn d x) x) (andi (cmpf .oeq (turn d x) x)
    (cmpi .sge lane (broadcast S512x256 (BitVec.ofNat 32 t))))) natLt_1_32)

/-- The number of groups chosen before a lane's own, at the groups' first lanes. -/
def rank (x : FVec Ideal S512x256 .f32) : FVec Ideal S512x256 .f32 :=
  let z := broadcast S512x256 (Scalar.ofBits (F := Ideal) .f32 0x00000000#32)
  let o := broadcast S512x256 (Scalar.ofBits (F := Ideal) .f32 0x3F800000#32)
  addf (addf (addf (addf (addf (addf (addf z (beats 32 224 x)) (subf o (turn 224 (beats 32 224 x)))) (beats 64 192 x))
    (subf o (turn 192 (beats 64 192 x)))) (beats 96 160 x)) (subf o (turn 160 (beats 96 160 x)))) (beats 128 128 x)

variable (sc : Vec Ideal S1x512x256 .f32) (b : Vec Ideal S1x256 .f32)

/-- The mark of a kept group: its rank is below four, and the lane is its first. -/
theorem keepMark_eq : keepMark sc b = andi (cmpf .olt (rank (groupScore sc b)) (broadcast S512x256 (Scalar.ofBits .f32 0x40800000#32)))
    (cmpi .eq k0_pay7 (broadcast S512x256 0#32)) := by
  unfold keepMark k0_pay18 k0_pay15 k0_pay16 k0_pay17
  rw [show k0_pay14 (k0_pay9 sc b) (k0_pay10 sc b) (k0_pay11 sc b) (k0_pay12 sc b) (k0_pay13 sc b) = groupScore sc b from rfl]
  simp only [turned32, turned64, turned96, turned128, turned160, turned192, turned224]
  rfl

open Classical in
/-- A truth value as a number. -/
def ind (p : Prop) : EReal := if p then 1 else 0

/-- The word of a lane's number. -/
theorem lane_apply (r : Fin 512) (l : Fin 256) : lane (ix2 r l) = BitVec.ofNat 32 l.val := by
  unfold lane
  pointwise

/-- A comparison at a lane: the lane `d` on has the greater score, or an equal one and the lane is at or past `t`. -/
theorem beats_apply (d t : Nat) (ht : t ≤ 256) (x : FVec Ideal S512x256 .f32) (r : Fin 512) (l : Fin 256) :
    row (beats d t x) r l = ind (row x r l < row x r (rot d l) ∨ (row x r (rot d l) = row x r l ∧ t ≤ l.val)) := by
  classical
  have e : row (beats d t x) r l = ((((BitVec.ofBool (decide (row x r l < row x r (rot d l))) |||
      (BitVec.ofBool (decide (row x r (rot d l) = row x r l)) &&& BitVec.ofBool ((BitVec.ofNat 32 t).sle (lane (ix2 r l))))).setWidth 32).toInt : ℝ) : EReal) := rfl
  have hs : (BitVec.ofNat 32 t).sle (BitVec.ofNat 32 l.val) = decide (t ≤ l.val) := by
    have := l.isLt
    have h1 : (BitVec.ofNat 32 t).toInt = t := by
      rw [BitVec.toInt_eq_toNat_of_lt (by rw [BitVec.toNat_ofNat]; omega), BitVec.toNat_ofNat, Nat.mod_eq_of_lt (by omega)]
    have h2 : (BitVec.ofNat 32 l.val).toInt = l.val := by
      rw [BitVec.toInt_eq_toNat_of_lt (by rw [BitVec.toNat_ofNat]; omega), BitVec.toNat_ofNat, Nat.mod_eq_of_lt (by omega)]
    rw [BitVec.sle, h1, h2]
    exact decide_eq_decide.mpr Nat.cast_le
  rw [e, lane_apply, hs]
  unfold ind
  by_cases h1 : row x r l < row x r (rot d l) <;> by_cases h2 : row x r (rot d l) = row x r l <;> by_cases h3 : t ≤ l.val <;>
    simp [h1, h2, h3]

/-- The comparison at a group's first lane. -/
theorem beats_lane (k : Nat) (hk : k < 8) (x : FVec Ideal S512x256 .f32) (r : Fin 512) (s : Fin 8 → EReal)
    (hs : ∀ g, row x r (Spec.lane g 0) = s g) (g : Fin 8) (hk0 : 0 < k) :
    row (beats (32 * k) (256 - 32 * k) x) r (Spec.lane g 0) = ind (bef s ⟨(g.val + k) % 8, Nat.mod_lt _ (by decide)⟩ g) := by
  rw [beats_apply _ _ (by omega), hs, show rot (32 * k) (Spec.lane g 0) = Spec.lane ⟨(g.val + k) % 8, Nat.mod_lt _ (by decide)⟩ 0 from
    Fin.ext (by have := g.isLt; simp only [rot, Spec.lane, Fin.val_zero]; omega), hs]
  congr 1
  rw [bef_iff]
  refine propext (or_congr Iff.rfl (and_congr Iff.rfl ?_))
  have := g.isLt
  simp only [Spec.lane, Fin.val_zero, Fin.lt_def]
  omega

/-- One less a comparison is the comparison the other way about. -/
theorem one_sub_ind (p q : Prop) (h : q ↔ ¬ p) : (1 : EReal) - ind p = ind q := by
  classical
  unfold ind
  by_cases hp : p
  · rw [if_pos hp, if_neg (by rw [h]; exact fun n => n hp)]
    show ((1 : ℝ) : EReal) - ((1 : ℝ) : EReal) = 0
    rw [← EReal.coe_sub]; simp
  · rw [if_neg hp, if_pos (h.mpr hp)]; norm_num

/-- A truth value as a number is a natural number, 1 or 0. -/
theorem ind_eq (p : Prop) [Decidable p] : ind p = (((if p then 1 else 0 : Nat) : ℝ) : EReal) := by
  unfold ind
  by_cases h : p <;> simp [h]

/-- Of two groups one is chosen before the other. -/
theorem bef_swap (s : Fin 8 → EReal) {i j : Fin 8} (h : i ≠ j) : bef s i j = true ↔ ¬ bef s j i = true := by
  rw [bef_iff, bef_iff]
  rcases lt_trichotomy (s i) (s j) with hl | he | hl
  · simp [hl, hl.not_gt, hl.ne]
  · rcases lt_or_gt_of_ne h with hij | hij
    · simp [he, hij, hij.not_gt]
    · simp [he, hij, hij.not_gt]
  · have hn : s i ≠ s j := hl.ne'
    simp [hl, hl.not_gt, hn, hn.symm]

/-- A sum over the eight groups, taken round from one that adds nothing. -/
theorem sum_round (c : Fin 8 → Nat) (g : Fin 8) (hg : c g = 0) : (∑ i, c i) =
    c ⟨(g.val + 1) % 8, Nat.mod_lt _ (by decide)⟩ + c ⟨(g.val + 7) % 8, Nat.mod_lt _ (by decide)⟩
    + c ⟨(g.val + 2) % 8, Nat.mod_lt _ (by decide)⟩ + c ⟨(g.val + 6) % 8, Nat.mod_lt _ (by decide)⟩
    + c ⟨(g.val + 3) % 8, Nat.mod_lt _ (by decide)⟩ + c ⟨(g.val + 5) % 8, Nat.mod_lt _ (by decide)⟩
    + c ⟨(g.val + 4) % 8, Nat.mod_lt _ (by decide)⟩ := by
  rw [Fin.sum_univ_eight]
  match g, hg with
  | 0, hg | 1, hg | 2, hg | 3, hg | 4, hg | 5, hg | 6, hg | 7, hg =>
    simp only [Fin.isValue, Fin.val_zero, Fin.val_one, Fin.val_two, Fin.reduceFinMk, Nat.reduceAdd, Nat.reduceMod, Fin.coe_ofNat_eq_mod]
    omega

/-- The rank at a group's first lane is the number of groups chosen before it. -/
theorem rank_lane (x : FVec Ideal S512x256 .f32) (r : Fin 512) (s : Fin 8 → EReal)
    (hs : ∀ g, row x r (Spec.lane g 0) = s g) (g : Fin 8) :
    row (rank x) r (Spec.lane g 0) = (((Finset.univ.filter fun i => bef s i g = true).card : ℝ) : EReal) := by
  -- the comparisons forwards and backwards
  have fw : ∀ k, 0 < k → k < 8 → row (beats (32 * k) (256 - 32 * k) x) r (Spec.lane g 0)
      = ind (bef s ⟨(g.val + k) % 8, Nat.mod_lt _ (by decide)⟩ g) := fun k h0 h8 => beats_lane k h8 x r s hs g h0
  have bw : ∀ k, 0 < k → k < 8 → (1 : EReal) - row (beats (32 * k) (256 - 32 * k) x) r (rot (256 - 32 * k) (Spec.lane g 0))
      = ind (bef s ⟨(g.val + (8 - k)) % 8, Nat.mod_lt _ (by decide)⟩ g) := fun k h0 h8 => by
    have hg := g.isLt
    rw [show rot (256 - 32 * k) (Spec.lane g 0) = Spec.lane ⟨(g.val + (8 - k)) % 8, Nat.mod_lt _ (by decide)⟩ 0 from
      Fin.ext (by simp only [rot, Spec.lane, Fin.val_zero]; omega), beats_lane k h8 x r s hs _ h0]
    rw [show (⟨((⟨(g.val + (8 - k)) % 8, Nat.mod_lt _ (by decide)⟩ : Fin 8).val + k) % 8, Nat.mod_lt _ (by decide)⟩ : Fin 8) = g from
      Fin.ext (by show ((g.val + (8 - k)) % 8 + k) % 8 = g.val; omega)]
    exact one_sub_ind _ _ (bef_swap s fun e => by have := congrArg Fin.val e; simp only at this; omega)
  have hr : row (rank x) r (Spec.lane g 0) = (Ideal.ofBits .f32 0x00000000#32 + row (beats 32 224 x) r (Spec.lane g 0)
      + (Ideal.ofBits .f32 0x3F800000#32 - row (beats 32 224 x) r (rot 224 (Spec.lane g 0))) + row (beats 64 192 x) r (Spec.lane g 0)
      + (Ideal.ofBits .f32 0x3F800000#32 - row (beats 64 192 x) r (rot 192 (Spec.lane g 0))) + row (beats 96 160 x) r (Spec.lane g 0)
      + (Ideal.ofBits .f32 0x3F800000#32 - row (beats 96 160 x) r (rot 160 (Spec.lane g 0))) + row (beats 128 128 x) r (Spec.lane g 0) : EReal) := rfl
  rw [hr, Ideal.ofBits_zero_f32, Ideal.ofBits_one_f32]
  have f1 := fw 1 (by decide) (by decide)
  have f2 := fw 2 (by decide) (by decide)
  have f3 := fw 3 (by decide) (by decide)
  have f4 := fw 4 (by decide) (by decide)
  have b1 := bw 1 (by decide) (by decide)
  have b2 := bw 2 (by decide) (by decide)
  have b3 := bw 3 (by decide) (by decide)
  simp only [Nat.reduceMul, Nat.reduceSub] at f1 f2 f3 f4 b1 b2 b3
  rw [f1, f2, f3, f4, b1, b2, b3]
  have self : ¬ bef s g g := fun h => by rw [bef_iff] at h; rcases h with h | h; exact lt_irrefl _ h; exact lt_irrefl _ h.2
  have hc : (Finset.univ.filter fun i => bef s i g = true).card = _ := (Finset.card_filter _ _).trans
    (sum_round (fun i => if bef s i g = true then 1 else 0) g (if_neg self))
  rw [hc]
  simp only [ind_eq, zero_add]
  norm_cast

/-- Marked lanes are the first lanes of the groups kept. -/
theorem keepMark_apply (r : Fin 512) (l : Fin 256) :
    keepMark sc b (ix2 r l) = 1#1 ↔ l.val % 32 = 0 ∧ Kept (row (k0_pay6 sc b) r) (grp l) := by
  have e : keepMark sc b (ix2 r l) = BitVec.ofBool (decide (row (rank (groupScore sc b)) r l < Ideal.ofBits .f32 0x40800000#32))
      &&& BitVec.ofBool ((lane (ix2 r l) &&& 31#32) == 0#32) := by rw [keepMark_eq]; rfl
  have h4 : Ideal.ofBits .f32 0x40800000#32 = ((4 : ℝ) : EReal) := by
    simp [Ideal.ofBits, Ideal.ieee, -EReal.coe_mul]; norm_num
  have hl := l.isLt
  have hz : ((BitVec.ofNat 32 l.val &&& 31#32) == 0#32) = decide (l.val % 32 = 0) := by
    rw [beq_eq_decide]
    refine decide_eq_decide.mpr ⟨fun h => ?_, fun h => ?_⟩
    · have := congrArg BitVec.toNat h
      rw [BitVec.toNat_and, BitVec.toNat_ofNat, Nat.mod_eq_of_lt (by omega)] at this
      exact (Nat.and_two_pow_sub_one_eq_mod l.val 5).symm.trans this
    · apply BitVec.eq_of_toNat_eq
      rw [BitVec.toNat_and, BitVec.toNat_ofNat, Nat.mod_eq_of_lt (by omega)]
      exact (Nat.and_two_pow_sub_one_eq_mod l.val 5).trans h
  rw [e, lane_apply, hz, h4]
  by_cases h0 : l.val % 32 = 0
  · have hlane : l = Spec.lane (grp l) 0 := Fin.ext (by simp only [Spec.lane, grp, Fin.val_zero]; omega)
    have hr : row (rank (groupScore sc b)) r l = _ := (congrArg _ hlane).trans (rank_lane (groupScore sc b) r _ (groupScore_apply sc b r) (grp l))
    rw [hr, Kept, chosen_iff]
    simp only [h0, true_and, decide_true]
    have hc : (((Finset.univ.filter fun i => bef (gsum (row (k0_pay6 sc b) r)) i (grp l) = true).card : ℝ) : EReal) < ((4 : ℝ) : EReal)
        ↔ (Finset.univ.filter fun i => bef (gsum (row (k0_pay6 sc b) r)) i (grp l) = true).card < 4 := by
      rw [EReal.coe_lt_coe_iff]; norm_cast
    simp only [hc]
    by_cases h : (Finset.univ.filter fun i => bef (gsum (row (k0_pay6 sc b) r)) i (grp l) = true).card < 4 <;> simp [h]
  · simp [h0]

end Cert.Gate

end
-- ==== Proof.Cand.lean ====
/-
  The candidates: a group's mark, spread over the group by a product with a fixed matrix of noughts and ones, leaves the
  scores of the groups kept and minus infinity elsewhere.
-/
module

public import proofs.«01_k».proof.Proof.Rank

@[expose] public section

set_option maxRecDepth 16384

noncomputable section

namespace Cert.Gate

open Cert.KernelIdeal Cert.KernelIdeal.Gen
open Idealize.ShloMosaic Cert.Two Cert.Spec Cert.Pick

variable (sc : Vec Ideal S1x512x256 .f32) (b : Vec Ideal S1x256 .f32) (bc : Vec Ideal S256x256 .bf16)

/-- The affinity is the logistic of the score. -/
theorem sig_apply (r : Fin 512) (l : Fin 256) : row (k0_pay5 sc) r l = Ideal.logistic (sc (ix3 0 r l)) := by
  unfold row k0_pay5
  pointwise

/-- The corrected score is the affinity and the expert's bias. -/
theorem corr_apply (r : Fin 512) (l : Fin 256) : row (k0_pay6 sc b) r l = row (k0_pay5 sc) r l + b (ix2 0 l) := by
  unfold row k0_pay6
  pointwise

/-- The scores the selection starts from. -/
def cur0 : FVec Ideal S512x256 .f32 := k0_pay19 (k0_pay6 sc b) (keepMark sc b) one zero bc

/-- They are the row's candidates, for the matrix with a one where the row is the first lane of the column's group. -/
theorem cur0_apply (hbc : ∀ j l : Fin 256, bc (ix2 j l) = if j.val = l.val / 32 * 32 then (1 : EReal) else 0)
    (r : Fin 512) (l : Fin 256) : row (cur0 sc b bc) r l = cand (row (k0_pay6 sc b) r) l := by
  classical
  have e : row (cur0 sc b bc) r l = Scalar.select (Ideal.cmp .ogt
      (∑ j : Fin 256, Scalar.select (keepMark sc b (ix2 r j)) (bc (ix2 j l) : EReal) 0) 0) (row (k0_pay6 sc b) r l) (low (ix2 r l)) := by
    unfold row cur0 k0_pay19 one zero low
    pointwise
  have hl := l.isLt
  set base : Fin 256 := ⟨l.val / 32 * 32, by omega⟩ with hbase
  have hsum : (∑ j : Fin 256, Scalar.select (keepMark sc b (ix2 r j)) (bc (ix2 j l) : EReal) 0)
      = Scalar.select (keepMark sc b (ix2 r base)) (1 : EReal) 0 := by
    rw [Finset.sum_eq_single base]
    · rw [hbc, if_pos rfl]
    · intro j _ hj
      rw [hbc, if_neg fun h => hj (Fin.ext h)]
      exact Scalar.select_same _ _
    · intro h; exact absurd (Finset.mem_univ _) h
  have hk := keepMark_apply sc b r base
  have hg : grp base = grp l := Fin.ext (by simp only [grp, hbase]; omega)
  rw [hg] at hk
  have hm : base.val % 32 = 0 := by simp only [hbase]; omega
  rw [e, hsum, low_apply]
  unfold cand
  by_cases h : Kept (row (k0_pay6 sc b) r) (grp l)
  · rw [if_pos h, hk.mpr ⟨hm, h⟩]
    simp [Scalar.select, Ideal.cmp]
  · have h0 : keepMark sc b (ix2 r base) = 0#1 := (bit_eq_zero_or_eq_one _).resolve_right fun h1 => h (hk.mp h1).2
    rw [if_neg h, h0]
    simp [Scalar.select, Ideal.cmp]

end Cert.Gate

end
-- ==== Proof.KRow.lean ====
/-
  The two results of a block, row by row: the eight experts of the row and their weights.
-/
module

public import proofs.«01_k».proof.Proof.Round
public import proofs.«01_k».proof.Proof.Cand

@[expose] public section

set_option maxRecDepth 16384

noncomputable section

namespace Cert.Gate

open Cert.KernelIdeal Cert.KernelIdeal.Gen
open Idealize.ShloMosaic Cert.Two Cert.Spec Cert.Pick

variable (sc : Vec Ideal S1x512x256 .f32) (b : Vec Ideal S1x256 .f32) (bc : Vec Ideal S256x256 .bf16)

/-- The candidates before round `t`. -/
def cands (t : Nat) : FVec Ideal S512x256 .f32 := left (keyv sc) (cur0 sc b bc) t
/-- The lane found in round `t`. -/
def ixs (t : Nat) : FVec Ideal S512x1 .f32 := ixOf (keyv sc) (cands sc b bc t)
/-- The affinity found in round `t`. -/
def wts (t : Nat) : FVec Ideal S512x1 .f32 := wtOf (keyv sc) (cands sc b bc t)

/-- The expert numbers in terms of the rounds. -/
theorem gateI_eq : gateI sc b bc = k0_pay1 (ixs sc b bc 0) (ixs sc b bc 1) (ixs sc b bc 2) (ixs sc b bc 3) (ixs sc b bc 4)
    (ixs sc b bc 5) (ixs sc b bc 6) (ixs sc b bc 7) := rfl

/-- The weights in terms of the rounds. -/
theorem gateW_eq : gateW sc b bc = k0_pay2 (wts sc b bc 0) (wts sc b bc 1) (wts sc b bc 2) (wts sc b bc 3) (wts sc b bc 4)
    (wts sc b bc 5) (wts sc b bc 6) (key (keyv sc) (cands sc b bc 7)) (ixs sc b bc 7) := rfl

/-- Eight columns side by side. -/
theorem cols_apply (v : Fin 8 → FVec Ideal S512x1 .f32) (h) (r : Fin 512) (q : Fin 8) :
    concatenate S512x8 1 [⟨S512x1, v 0⟩, ⟨S512x1, v 1⟩, ⟨S512x1, v 2⟩, ⟨S512x1, v 3⟩, ⟨S512x1, v 4⟩, ⟨S512x1, v 5⟩, ⟨S512x1, v 6⟩,
      ⟨S512x1, v 7⟩] h (ix2 r q) = col (v q) r := by
  unfold col
  match q with
  | 0 | 1 | 2 | 3 | 4 | 5 | 6 | 7 => pointwise

/-- Eight columns side by side, as numbers of lanes. -/
theorem pay1_apply (v : Fin 8 → FVec Ideal S512x1 .f32) (r : Fin 512) (q : Fin 8) :
    k0_pay1 (v 0) (v 1) (v 2) (v 3) (v 4) (v 5) (v 6) (v 7) (ix2 r q) = Ideal.fptosi 32 (col (v q) r) := by
  rw [← cols_apply v concatenates_S512x1_S512x1_S512x1_S512x1_S512x1_S512x1_S512x1_S512x1_S512x8_d1 r q]
  rfl

/-- Eight columns side by side, each over the sum of the eight and scaled. -/
theorem pay2_apply (v : Fin 8 → FVec Ideal S512x1 .f32) (k x : FVec Ideal S512x1 .f32)
    (h7 : mulf (subf k x) (broadcast S512x1 (Scalar.ofBits .f32 0x40000000#32)) = v 7) (r : Fin 512) (q : Fin 8) :
    k0_pay2 (v 0) (v 1) (v 2) (v 3) (v 4) (v 5) (v 6) k x (ix2 r q)
      = Ideal.div (col (v q) r) (∑ p : Fin 8, col (v p) r) * Ideal.ofBits .f32 0x40200000#32 := by
  have hc := fun q => cols_apply v concatenates_S512x1_S512x1_S512x1_S512x1_S512x1_S512x1_S512x1_S512x1_S512x8_d1 r q
  simp only [← hc]
  unfold k0_pay2
  rw [h7]
  generalize concatenate S512x8 1 [⟨S512x1, v 0⟩, ⟨S512x1, v 1⟩, ⟨S512x1, v 2⟩, ⟨S512x1, v 3⟩, ⟨S512x1, v 4⟩, ⟨S512x1, v 5⟩, ⟨S512x1, v 6⟩,
      ⟨S512x1, v 7⟩] _ = y
  pointwise

/-! ### Under the conditions the two results meet -/

/-- The logistic is a real number between nought and one. -/
theorem logistic_real (x : EReal) : ∃ a : ℝ, Ideal.logistic x = (a : EReal) ∧ 0 ≤ a ∧ a ≤ 1 := by
  induction x with
  | bot => exact ⟨0, by rw [Ideal.logistic_bot]; rfl, le_rfl, zero_le_one⟩
  | top => exact ⟨1, by rw [Ideal.logistic_top]; rfl, zero_le_one, le_rfl⟩
  | coe x =>
    have h := Real.exp_pos (-x)
    exact ⟨(1 + Real.exp (-x))⁻¹, Ideal.logistic_coe x, by positivity, inv_le_one_of_one_le₀ (by linarith)⟩

/-- The word of a lane's number. -/
theorem toWord (n : Nat) (hn : n < 256) : Ideal.fptosi 32 ((n : ℝ) : EReal) = BitVec.ofNat 32 n := by
  rw [Ideal.fptosi, Ideal.toIntClamped_coe, if_pos (Nat.cast_nonneg n), Int.floor_natCast]
  rw [show max (-((2 ^ (32 - 1) : Nat) : Int)) (min (((2 ^ (32 - 1) : Nat) : Int) - 1) (n : Int)) = (n : Int) by
    norm_num; omega]
  exact BitVec.ofInt_natCast 32 n

/-- The key of a lane is its number and half the affinity. -/
theorem keyv_apply (r : Fin 512) (l : Fin 256) (a : ℝ) (h : row (k0_pay5 sc) r l = (a : EReal)) :
    row (keyv sc) r l = (((l.val : ℝ) + a / 2 : ℝ) : EReal) := by
  have e : row (keyv sc) r l = (((lane (ix2 r l)).toInt : ℝ) : EReal) + Ideal.ofBits .f32 0x3F000000#32 * row (k0_pay5 sc) r l := rfl
  have hl := l.isLt
  have h2 : (BitVec.ofNat 32 l.val).toInt = l.val := by
    rw [BitVec.toInt_eq_toNat_of_lt (by rw [BitVec.toNat_ofNat]; omega), BitVec.toNat_ofNat, Nat.mod_eq_of_lt (by omega)]
  rw [e, h, lane_apply, h2, bits_half, ← EReal.coe_mul, ← EReal.coe_add]
  congr 1
  push_cast
  ring

variable (hbc : ∀ j l : Fin 256, bc (ix2 j l) = if j.val = l.val / 32 * 32 then (1 : EReal) else 0)
  (hb : ∀ l : Fin 256, b (ix2 0 l) ≠ (⊥ : EReal))
include hbc hb

/-- The lane and the affinity found in each round are the expert's. -/
theorem round_eq (r : Fin 512) (q : Fin 8) :
    col (ixs sc b bc q.val) r = (((expert (row (k0_pay6 sc b) r) q).val : ℝ) : EReal)
    ∧ col (wts sc b bc q.val) r = row (k0_pay5 sc) r (expert (row (k0_pay6 sc b) r) q) := by
  choose σ hσ h0 h1 using fun l => logistic_real (sc (ix3 0 r l))
  have hs : ∀ l, row (k0_pay5 sc) r l = (σ l : EReal) := fun l => (sig_apply sc r l).trans (hσ l)
  have hk : ∀ l : Fin 256, row (keyv sc) r l = ((((l.val : ℝ) + σ l / 2 : ℝ)) : EReal) := fun l => keyv_apply sc r l _ (hs l)
  have hn : ∀ l, row (k0_pay6 sc b) r l ≠ ⊥ := fun l => by
    rw [corr_apply, hs]
    exact fun h => (EReal.add_eq_bot_iff.mp h).elim (EReal.coe_ne_bot _) (hb l)
  have hne := fun q => cand_expert_ne hn q
  have hat := left_at hk h0 h1 (cur0_apply sc b bc hbc r) hne q.val q.isLt
  have ht := hne q
  refine ⟨ix_eq (t := q.castLE (by decide)) hk h0 h1 hat ht, ?_⟩
  rw [hs]
  exact wt_eq (t := q.castLE (by decide)) hk h0 h1 hat ht

/-- The experts of a row. -/
theorem gateI_apply (r : Fin 512) (q : Fin 8) :
    gateI sc b bc (ix2 r q) = BitVec.ofNat 32 (expert (row (k0_pay6 sc b) r) q).val := by
  rw [gateI_eq]
  refine (pay1_apply (fun q => ixs sc b bc q.val) r q).trans ?_
  rw [(round_eq sc b bc hbc hb r q).1]
  exact toWord _ (Fin.isLt _)

/-- The weights of a row. -/
theorem gateW_apply (r : Fin 512) (q : Fin 8) :
    gateW sc b bc (ix2 r q) = weight (row (k0_pay5 sc) r) (row (k0_pay6 sc b) r) (Ideal.ofBits .f32 0x40200000#32) q := by
  rw [gateW_eq]
  refine (pay2_apply (fun q => wts sc b bc q.val) _ _ rfl r q).trans ?_
  simp only [(round_eq sc b bc hbc hb r _).2]
  rfl

end Cert.Gate

end
-- ==== Proof.Blocks.lean ====
/-
  What the kernel's windows hold, in terms of the arguments: the blocks of tokens, the weights, the row of biases and the
  matrix that sends each lane to the first lane of its group.
-/
module

public import proofs.«01_k».proof.Proof.KRow
public import proofs.«01_k».proof.Proof.Run
public import Idealize.ShloMosaic.Lib.StableHlo.ReadAt
public import Idealize.ShloMosaic.Lib.Pipeline.ValueKit

@[expose] public section

set_option maxRecDepth 16384

noncomputable section

namespace Cert.Gate

open Cert.KernelIdeal Cert.KernelIdeal.Gen
open Idealize.ShloMosaic Idealize.ShloMosaic.TcCoe Cert.Spec Cert.Pick

variable (m : (ℓ : Loc nD τ sig) → Buf (Elt Ideal) ℓ) (c : Dev nD)

/-- The tokens. -/
abbrev tok : Vec Ideal S8192x7168 .f32 := m ((c : Thread nD τ).loc main_arg0)
/-- The weights, a row of them for each expert. -/
abbrev wgt : Vec Ideal S256x7168 .f32 := m ((c : Thread nD τ).loc main_arg1)
/-- The biases, one for each expert. -/
abbrev bia : Vec Ideal S256 .f32 := m ((c : Thread nD τ).loc main_arg2)

/-- Step `t` reads block `t` of the tokens; the last step reads the last block again. -/
theorem index0_0 : ∀ t : Fin cfg0.N, win0_0.index t = ![min t.val 15, 0] := (by decide +kernel : ∀ t : Fin grid0.N, _)
/-- Every step reads the whole of the weights. -/
theorem index0_1 : ∀ t : Fin cfg0.N, win0_1.index t = ![0, 0] := (by decide +kernel : ∀ t : Fin grid0.N, _)
/-- Every step reads the whole of the biases. -/
theorem index0_2 : ∀ t : Fin cfg0.N, win0_2.index t = ![0, 0] := (by decide +kernel : ∀ t : Fin grid0.N, _)
/-- Every step reads the whole of the matrix of ones. -/
theorem index0_3 : ∀ t : Fin cfg0.N, win0_3.index t = ![0, 0] := (by decide +kernel : ∀ t : Fin grid0.N, _)

/-- A block of tokens. -/
theorem tok_apply (t : Fin cfg0.N) (R : Fin 8192) (r : Fin 512) (k : Fin 7168) (h : R.val = min t.val 15 * 512 + r.val) :
    iblk m c 0 t (ix2 r k) = tok m c (ix2 R k) := by
  blk_ext [iblk, V_main_arg0, index0_0 t]

/-- The weights a step reads are the argument's. -/
theorem wgt_apply (t : Fin cfg0.N) (l : Fin 256) (k : Fin 7168) : iblk m c 1 t (ix2 l k) = wgt m c (ix2 l k) := by
  blk_ext [iblk, V_main_arg1, index0_1 t]

/-- The biases a step reads are the argument's. -/
theorem bias_apply (t : Fin cfg0.N) (l : Fin 256) : iblk m c 2 t (ix2 0 l) = bia m c (ix1 l) := by
  have e : V m c main_call0_v0 (ix2 0 l) = bia m c (ix1 l) := by
    unfold V
    after_reads_at
  refine Eq.trans ?_ e
  blk_ext [iblk, index0_2 t]

/-- The number of a lane, divided by 32 rounding down, times 32. -/
theorem first_word (l : Fin 256) :
    IntOp.muli
      (Scalar.select
        (IntOp.andi
          (IntOp.cmpi .ne
            (if BitVec.ofNat 32 l.val = 0 then 0 else if (BitVec.ofNat 32 l.val).msb = true then -1 else 1)
            (if 32#32 = 0 then 0 else if BitVec.msb 32#32 = true then -1 else (1 : BitVec 32)))
          (IntOp.cmpi .ne (IntOp.remsi ArithUnit.host (BitVec.ofNat 32 l.val) 32#32) 0#32))
        (IntOp.subi (IntOp.divsi ArithUnit.host (BitVec.ofNat 32 l.val) 32#32) 1#32)
        (IntOp.divsi ArithUnit.host (BitVec.ofNat 32 l.val) 32#32))
      32#32 = BitVec.ofNat 32 (l.val / 32 * 32) := by
  revert l
  decide +kernel

/-- The matrix a step reads has a one where the row is the first lane of the column's group, and zeros elsewhere. -/
theorem mat_apply (t : Fin cfg0.N) (j l : Fin 256) : iblk m c 3 t (ix2 j l) = if j.val = l.val / 32 * 32 then (1 : EReal) else 0 := by
  have e : V m c main_call0_v7 (ix2 j l) = if j.val = l.val / 32 * 32 then (1 : EReal) else 0 := by
    unfold V
    after_reads_at
    refine (congrArg (fun w => FloatOps.uitofp (F := Ideal) .bf16 (IntOp.cmpi .eq (BitVec.ofNat 32 j.val) w)) (first_word l)).trans ?_
    have hj : BitVec.ofNat 32 j.val = BitVec.ofNat 32 (l.val / 32 * 32) ↔ j.val = l.val / 32 * 32 := by
      rw [← BitVec.toNat_inj, BitVec.toNat_ofNat, BitVec.toNat_ofNat]
      omega
    by_cases h : j.val = l.val / 32 * 32
    · rw [if_pos h, h, show IntOp.cmpi .eq (BitVec.ofNat 32 (l.val / 32 * 32)) (BitVec.ofNat 32 (l.val / 32 * 32)) = 1#1 by simp [IntOp.cmpi]]
      show (((1#1 : BitVec 1).toNat : ℝ) : EReal) = 1
      simp
    · have hne := mt hj.1 h
      rw [if_neg h, show IntOp.cmpi .eq (BitVec.ofNat 32 j.val) (BitVec.ofNat 32 (l.val / 32 * 32)) = 0#1 by
        unfold IntOp.cmpi; simp only [beq_eq_false_iff_ne.mpr hne]; rfl]
      show (((0#1 : BitVec 1).toNat : ℝ) : EReal) = 0
      simp
  refine Eq.trans ?_ e
  blk_ext [iblk, index0_3 t]

/-- The scores of a block. -/
theorem scores_apply (x : Vec Ideal S512x7168 .f32) (w : Vec Ideal S256x7168 .f32) (r : Fin 512) (l : Fin 256) :
    scoresOf x w (ix3 0 r l) = ∑ k : Fin 7168, x (ix2 r k) * w (ix2 l k) := by
  unfold scoresOf k0_pay3 k0_pay4
  pointwise

end Cert.Gate

end
-- ==== Proof.RefRow.lean ====
/-
  The reference row by row: the groups it keeps, the candidates, the experts and their weights are those of `Spec`.
-/
module

public import proofs.«01_k».proof.Proof.Spec
public import proofs.«01_k».proof.Proof.Gen.ReferenceIdeal.Read
public import Idealize.ShloMosaic.Lib.Routing.OpsPair
public import Idealize.ShloMosaic.Lib.Routing.OpsSet
public import Idealize.ShloMosaic.Lib.ReduceAll

@[expose] public section

set_option maxRecDepth 16384

noncomputable section

namespace Cert.RefRow

open Cert.ReferenceIdeal Cert.ReferenceIdeal.Gen Cert.ReferenceIdeal.Read
open Idealize.ShloMosaic Cert.Spec Cert.Pick

variable (x0 : Vec Ideal S8192x7168 .f32) (x1 : Vec Ideal S256x7168 .f32) (x2 : Vec Ideal S256 .f32)

/-- A word that is not negative is left as it is by the wrap of negative places. -/
theorem wrap_word (a : BitVec 32) {n : Nat} (h : n < 2 ^ 31) :
    Scalar.select (IntOp.cmpi .slt (BitVec.ofNat 32 n) 0#32) a (BitVec.ofNat 32 n) = BitVec.ofNat 32 n :=
  Routing.wrap_of_lt _ _ (by rw [BitVec.toNat_ofNat]; omega)

/-- A small number's word, read signed, is the number. -/
theorem toInt_word {n : Nat} (h : n < 2 ^ 31) : (BitVec.ofNat 32 n).toInt = (n : Int) := by
  rw [BitVec.toInt_eq_toNat_of_lt (by rw [BitVec.toNat_ofNat]; omega), BitVec.toNat_ofNat]
  omega

/-- Row `r` of the affinities. -/
def sig (r : Fin 8192) (l : Fin 256) : EReal := val_main_v7 (F := Ideal) x0 x1 (ix2 r l)
/-- Row `r` of the corrected scores. -/
def cor (r : Fin 8192) (l : Fin 256) : EReal := val_main_v10 (F := Ideal) x0 x1 x2 (ix2 r l)

/-- An affinity is the logistic function of the row's product with the expert's row of weights. -/
theorem sig_eq (r : Fin 8192) (l : Fin 256) :
    sig x0 x1 r l = Ideal.logistic (∑ k : Fin 7168, x0 (ix2 r k) * x1 (ix2 l k)) := by
  unfold sig val_main_v7 val_main_v6 val_main_v5 val_main_v4 val_main_v3 val_main_v2 val_main_v1 val_main_v0 val_main_cst val_main_cst_0
  pointwise
  rfl

/-- A corrected score is the affinity plus the expert's bias. -/
theorem cor_eq (r : Fin 8192) (l : Fin 256) : cor x0 x1 x2 r l = sig x0 x1 r l + x2 (ix1 l) := by
  unfold cor sig val_main_v10 val_main_v9 val_main_v8
  pointwise

/-- The corrected scores in groups: group `g` of row `r`. -/
theorem v11_apply (r : Fin 8192) (g : Fin 8) (i : Fin 32) :
    val_main_v11 (F := Ideal) x0 x1 x2 (ix3 r g i) = part (cor x0 x1 x2 r) g i := by
  unfold val_main_v11 part cor lane
  generalize val_main_v10 (F := Ideal) x0 x1 x2 = y
  pointwise
  exact congrArg (fun l => y (ix2 r l)) (Fin.ext (by show g.val * 32 + i.val = 32 * g.val + i.val; omega))

/-- The two greatest scores of a group. -/
theorem values_apply (r : Fin 8192) (g : Fin 8) (q : Fin 2) :
    val_main_values (F := Ideal) x0 x1 x2 (ix3 r g q) = part (cor x0 x1 x2 r) g (pos (part (cor x0 x1 x2 r) g) (q.castLE (by decide))) := by
  have h := topK3_val (by decide : 2 ≤ 32) (val_main_v11 (F := Ideal) x0 x1 x2) sliceFits_S8192x8x32_S8192x8x2 r g q
  have e : (fun l => val_main_v11 (F := Ideal) x0 x1 x2 (ix3 r g l)) = part (cor x0 x1 x2 r) g := funext fun l => v11_apply x0 x1 x2 r g l
  rw [e] at h
  exact h.trans (v11_apply x0 x1 x2 r g _)

/-- A group's score. -/
theorem v12_apply (r : Fin 8192) (g : Fin 8) : val_main_v12 (F := Ideal) x0 x1 x2 (ix2 r g) = gsum (cor x0 x1 x2 r) g := by
  rw [val_main_v12_apply, Fin.sum_univ_two, val_main_cst_1_apply]
  have e : ∀ k : Fin 2, idx_main_v12 (ix2 r g) k = ix3 r g k := fun k => by
    funext a; match a with | ⟨0, _⟩ | ⟨1, _⟩ | ⟨2, _⟩ => rfl
  rw [e 0, e 1, values_apply, values_apply]
  show Ideal.ofBits .f32 0#32 + _ = _
  rw [Ideal.ofBits_zero_f32, zero_add]
  rfl

/-- The four groups kept. -/
theorem groups_apply (r : Fin 8192) (q : Fin 4) :
    val_main_indices_3 (F := Ideal) x0 x1 x2 (ix2 r q) = BitVec.ofNat 32 (pos (gsum (cor x0 x1 x2 r)) (q.castLE (by decide))).val := by
  have h := topK2_idx (by decide : 4 ≤ 8) (val_main_v12 (F := Ideal) x0 x1 x2) sliceFits_S8192x8_S8192x4 r q
  have e : (fun l => val_main_v12 (F := Ideal) x0 x1 x2 (ix2 r l)) = gsum (cor x0 x1 x2 r) := funext fun l => v12_apply x0 x1 x2 r l
  rw [e] at h
  exact h

/-- The first word of a pair that says which mark is set: the row. -/
theorem v29_row (r : Fin 8192) (q : Fin 4) : val_main_v29 (F := Ideal) x0 x1 x2 (ix3 r q 0) = BitVec.ofNat 32 r.val := by
  unfold val_main_v29 val_main_v27 val_main_v26 val_main_v20 val_main_v17 val_main_v16 val_main_v15 val_main_v14 val_main_c_4
  pointwise
  exact wrap_word _ (by omega)

/-- The second word of a pair: the group kept. -/
theorem v29_grp (r : Fin 8192) (q : Fin 4) :
    val_main_v29 (F := Ideal) x0 x1 x2 (ix3 r q 1) = BitVec.ofNat 32 (pos (gsum (cor x0 x1 x2 r)) (q.castLE (by decide))).val := by
  unfold val_main_v29 val_main_v28 val_main_v25 val_main_v22 val_main_v21 val_main_c_6
  pointwise
  rw [groups_apply]
  exact wrap_word _ (by have := (pos (gsum (cor x0 x1 x2 r)) (q.castLE (by decide))).isLt; omega)

open Classical in
/-- The marks: set for the groups kept. -/
theorem v31_apply (r : Fin 8192) (g : Fin 8) :
    val_main_v31 (F := Ideal) x0 x1 x2 (ix2 r g) = if Kept (cor x0 x1 x2 r) g then 1#1 else 0#1 := by
  have hl := fun (a : Fin 8192) (b : Fin 4) =>
    Routing.scatter_lands2 scatter_S8192x8_S8192x4x2_S8192x4_n_01_01_2 rfl rfl rfl (val_main_v29 (F := Ideal) x0 x1 x2) a b r g
  have hl' : ∀ (a : Fin 8192) (b : Fin 4), scatter_S8192x8_S8192x4x2_S8192x4_n_01_01_2.resultIdx? (ix2 a b) (val_main_v29 (F := Ideal) x0 x1 x2) = some (ix2 r g)
      ↔ a = r ∧ pos (gsum (cor x0 x1 x2 a)) (b.castLE (by decide)) = g := fun a b => by
    rw [ix2_eq_valueIdx, ix2_eq_valueIdx]
    refine (hl a b).trans ?_
    rw [← ix3_eq_valueIdx, ← ix3_eq_valueIdx, v29_row, v29_grp,
      toInt_word (by omega), toInt_word (by have := (pos (gsum (cor x0 x1 x2 a)) (b.castLE (by decide))).isLt; omega)]
    rw [Nat.cast_inj, Nat.cast_inj, Fin.val_inj, Fin.val_inj]
  unfold val_main_v31
  by_cases hk : Kept (cor x0 x1 x2 r) g
  · rw [if_pos hk]
    obtain ⟨q, hq, e⟩ := hk
    refine Routing.scatter_set_hit _ _ _ _ _ 1#1 (fun k _ => ?_) (ix2 r (⟨q.val, hq⟩ : Fin 4)) ((hl' r ⟨q.val, hq⟩).2 ⟨rfl, e⟩)
    rw [val_main_v30_apply, val_main_c_8_apply]
  · rw [if_neg hk]
    refine (Routing.scatter_set_miss _ _ _ _ _ fun k hk' => hk ?_).trans ?_
    · obtain ⟨a, b, rfl⟩ : ∃ (a : Fin 8192) (b : Fin 4), k = ix2 a b := ⟨k 0, k 1, by
        funext i; match i with | ⟨0, _⟩ | ⟨1, _⟩ => rfl⟩
      obtain ⟨rfl, e⟩ := (hl' a b).1 hk'
      exact ⟨_, b.isLt, e⟩
    · rw [val_main_v13_apply]; rfl

/-- The candidates. -/
theorem v34_apply (r : Fin 8192) (l : Fin 256) : val_main_v34 (F := Ideal) x0 x1 x2 (ix2 r l) = cand (cor x0 x1 x2 r) l := by
  have e : idx_main_v34 (ix2 r l) = ix3 r (grp l) (⟨l.val % 32, by omega⟩ : Fin 32) := by
    funext a
    match a with
    | ⟨0, _⟩ => exact Fin.ext (by show (r.val * 256 + l.val) / 256 = r.val; omega)
    | ⟨1, _⟩ => exact Fin.ext (by show (r.val * 256 + l.val) / 32 % 8 = l.val / 32; omega)
    | ⟨2, _⟩ => exact Fin.ext (by show (r.val * 256 + l.val) % 32 = l.val % 32; omega)
  have e1 : idx_main_v32 (idx_main_call0_v1 (ix3 r (grp l) (⟨l.val % 32, by omega⟩ : Fin 32))) = ix2 r (grp l) := by
    funext a; match a with | ⟨0, _⟩ | ⟨1, _⟩ => rfl
  have e2 : lane (grp l) (⟨l.val % 32, by omega⟩ : Fin 32) = l := Fin.ext (by simp only [lane, grp]; omega)
  rw [val_main_v34_apply, e, val_main_v33_apply, val_main_call0_v1_apply, val_main_v32_apply, e1, v31_apply, v11_apply, val_main_call0_v2_apply,
    val_main_call0_v0_apply, val_main_cst_9_apply]
  unfold cand part
  rw [e2]
  split
  · rfl
  · show Ideal.ofBits .f32 0xFF800000#32 = ⊥
    simp [Ideal.ofBits, Ideal.ieee]

/-- The experts. -/
theorem experts_apply (r : Fin 8192) (q : Fin 8) :
    val_main_indices_11 (F := Ideal) x0 x1 x2 (ix2 r q) = BitVec.ofNat 32 (expert (cor x0 x1 x2 r) q).val := by
  have h := topK2_idx (by decide : 8 ≤ 256) (val_main_v34 (F := Ideal) x0 x1 x2) sliceFits_S8192x256_S8192x8 r q
  have e : (fun l => val_main_v34 (F := Ideal) x0 x1 x2 (ix2 r l)) = cand (cor x0 x1 x2 r) := funext fun l => v34_apply x0 x1 x2 r l
  rw [e] at h
  exact h

/-- The experts as places to read at. -/
theorem v5_apply (r : Fin 8192) (q : Fin 8) (z : Fin 1) :
    val_main_call1_v5 (F := Ideal) x0 x1 x2 (ix3 r q z) = BitVec.ofNat 32 (expert (cor x0 x1 x2 r) q).val := by
  have e : idx_main_call1_v5 (ix3 r q z) = ix2 r q := by
    funext a
    match a with
    | ⟨0, _⟩ => exact Fin.ext (by show ((r.val * 8 + q.val) * 1 + z.val) / 8 = r.val; omega)
    | ⟨1, _⟩ => exact Fin.ext (by show ((r.val * 8 + q.val) * 1 + z.val) % 8 = q.val; omega)
  rw [val_main_call1_v5_apply, e, val_main_call1_v4_apply, val_main_call1_v1_apply, val_main_call1_v0_apply, val_main_call1_c_apply, experts_apply]
  exact wrap_word _ (by have := (expert (cor x0 x1 x2 r) q).isLt; omega)

/-- Every place lies among the 256 lanes. -/
theorem v12_one (i : S8192x8.Idx) : val_main_call1_v12 (F := Ideal) x0 x1 x2 i = 1#1 := by
  unfold val_main_call1_v12
  refine Idealize.ShloMosaic.Host.reduce_andi_one _ _ _ _ _ rfl fun j => ?_
  obtain ⟨r, q, z, rfl⟩ : ∃ (r : Fin 8192) (q : Fin 8) (z : Fin 1), j = ix3 r q z := ⟨j 0, j 1, j 2, by
    funext i; match i with | ⟨0, _⟩ | ⟨1, _⟩ | ⟨2, _⟩ => rfl⟩
  rw [val_main_call1_v11_apply, val_main_call1_v7_apply, val_main_call1_v10_apply, v5_apply, val_main_call1_v6_apply, val_main_call1_c_2_apply,
    val_main_call1_v9_apply, val_main_call1_v8_apply, val_main_call1_c_1_apply]
  generalize expert (cor x0 x1 x2 r) q = e
  revert e
  decide +kernel

/-- The affinity read at an expert. -/
theorem v13_apply (r : Fin 8192) (q : Fin 8) :
    val_main_call1_v13 (F := Ideal) x0 x1 x2 (ix2 r q) = sig x0 x1 r (expert (cor x0 x1 x2 r) q) := by
  unfold val_main_call1_v13 sig Host.gather
  set d := gather_S8192x256_S8192x8x1_S8192x8_n_1_0_0_1_2_11 with hd
  have hob : d.operandBatchingDims = [0] := rfl
  have hcs : d.collapsedSliceDims = [1] := rfl
  have hsm : d.startIndexMap = [1] := rfl
  congr 1
  funext a
  refine Fin.ext ?_
  show d.start (ix2 r q) (val_main_call1_v5 (F := Ideal) x0 x1 x2) a + d.batchCoord (ix2 r q) a + d.offCoord (ix2 r q) a = _
  have h01 : a = (0 : Fin 2) ∨ a = (1 : Fin 2) := by
    match a with
    | ⟨0, _⟩ => exact Or.inl rfl
    | ⟨1, _⟩ => exact Or.inr rfl
  rcases h01 with rfl | rfl
  · have hm : (0 : Fin 2) ∈ d.operandBatchingDims := by rw [hob]; exact List.mem_singleton.mpr rfl
    rw [GatherDims.start_batching _ _ _ _ hm, GatherDims.offCoord_eq_zero _ _ _ (fun h => ((GatherDims.mem_sKept _ _).mp h).2 hm)]
    unfold GatherDims.batchCoord
    rw [dif_pos hm, Nat.zero_add, Nat.add_zero]
    rfl
  · have hm : (1 : Fin 2) ∈ d.startIndexMap := by rw [hsm]; exact List.mem_singleton.mpr rfl
    have hc : (1 : Fin 2) ∈ d.collapsedSliceDims := by rw [hcs]; exact List.mem_singleton.mpr rfl
    rw [GatherDims.batchCoord_eq_zero _ _ _ (fun h => GatherDims.sim_disjoint d _ hm h),
      GatherDims.offCoord_eq_zero _ _ _ (fun h => ((GatherDims.mem_sKept _ _).mp h).1 hc)]
    unfold GatherDims.start
    rw [dif_pos hm]
    have hsi : d.siIdx (ix2 r q) ⟨List.idxOf (1 : Fin 2) d.startIndexMap, List.idxOf_lt_length_iff.2 hm⟩ = ix3 r q (0 : Fin 1) := by
      funext b; refine Fin.ext ?_
      match b with
      | ⟨0, _⟩ => rfl
      | ⟨1, _⟩ => rfl
      | ⟨2, _⟩ => rfl
    have he := (expert (cor x0 x1 x2 r) q).isLt
    have hv : (val_main_call1_v5 (F := Ideal) x0 x1 x2 (ix3 r q (0 : Fin 1))).toInt.toNat = (expert (cor x0 x1 x2 r) q).val := by
      rw [v5_apply, toInt_word (by omega)]; rfl
    rw [hsi, hv]
    clear hv
    generalize expert (cor x0 x1 x2 r) q = e at he ⊢
    show min e.val (256 - 1) = e.val
    omega

/-- The affinities gathered: those of the experts chosen. -/
theorem v35_apply (r : Fin 8192) (q : Fin 8) :
    val_main_v35 (F := Ideal) x0 x1 x2 (ix2 r q) = sig x0 x1 r (expert (cor x0 x1 x2 r) q) := by
  rw [val_main_v35_apply, v12_one, v13_apply]; rfl

/-- The weights. -/
theorem weights_apply (r : Fin 8192) (q : Fin 8) : val_main_v41 (F := Ideal) x0 x1 x2 (ix2 r q)
    = weight (sig x0 x1 r) (cor x0 x1 x2 r) (Ideal.ofBits .f32 0x40200000#32) q := by
  have e : ∀ k : Fin 8, idx_main_v36 (idx_main_v37 (idx_main_v38 (ix2 r q))) k = ix2 r k := fun k => by
    funext a; match a with | ⟨0, _⟩ | ⟨1, _⟩ => rfl
  rw [val_main_v41_apply, val_main_v39_apply, v35_apply, val_main_v38_apply, val_main_v37_apply, val_main_v36_apply, val_main_v40_apply,
    val_main_cst_13_apply, val_main_cst_12_apply]
  simp only [e, v35_apply]
  show Ideal.div _ (Ideal.ofBits .f32 0#32 + _) * _ = _
  rw [Ideal.ofBits_zero_f32, zero_add]
  rfl

end Cert.RefRow

end
-- ==== Proof.Arrays.lean ====
/-
  The kernel's result arrays after a run, as functions of the arguments: those of the reference.

  Step `t`, for `t = 1, …, 16`, writes back block `t - 1` of each result.
-/
module

public import proofs.«01_k».proof.Proof.Blocks
public import proofs.«01_k».proof.Proof.RefRow

@[expose] public section

set_option maxRecDepth 16384

noncomputable section

namespace Cert.Gate

open Cert.KernelIdeal Cert.KernelIdeal.Gen
open Idealize.ShloMosaic Idealize.ShloMosaic.TcCoe Cert.Spec Cert.Pick
open Cert.ReferenceIdeal.Read

attribute [local irreducible] gateW gateI expert weight RefRow.sig RefRow.cor val_main_v41 val_main_indices_11

variable (m : (ℓ : Loc nD τ sig) → Buf (Elt Ideal) ℓ) (c : Dev nD)

/-- The weights the reference gives at the kernel's arguments. -/
def outW : Vec Ideal S8192x8 .f32 := val_main_v41 (F := Ideal) (tok m c) (wgt m c) (bia m c)
/-- The expert numbers the reference gives at the kernel's arguments. -/
def outI : Vec Ideal S8192x8 .i32 := val_main_indices_11 (F := Ideal) (tok m c) (wgt m c) (bia m c)

/-- Step `t` writes block `t - 1` of the weights; the first step has block 0. -/
theorem index0_4 : ∀ t : Fin cfg0.N, win0_4.index t = ![t.val - 1, 0] := (by decide +kernel : ∀ t : Fin grid0.N, _)
/-- Step `t` writes block `t - 1` of the expert numbers; the first step has block 0. -/
theorem index0_5 : ∀ t : Fin cfg0.N, win0_5.index t = ![t.val - 1, 0] := (by decide +kernel : ∀ t : Fin grid0.N, _)

/-- The first step writes nothing back. -/
theorem flush_pos : ∀ t : Fin cfg0.N, (cfg0.win 4).flush t = true ∨ (cfg0.win 5).flush t = true → 0 < t.val :=
  (by decide +kernel : ∀ t : Fin grid0.N, _)

/-- The affinities of a block are those of the reference's rows. -/
theorem sig_row (s : Fin cfg0.N) (R : Fin 8192) (r : Fin 512) (h : R.val = min s.val 15 * 512 + r.val) :
    row (k0_pay5 (stored m c s)) r = RefRow.sig (tok m c) (wgt m c) R := by
  funext l
  rw [sig_apply, RefRow.sig_eq]
  unfold stored
  rw [scores_apply]
  refine congrArg Ideal.logistic (Finset.sum_congr rfl fun k _ => ?_)
  rw [tok_apply m c s R r k h, wgt_apply]

/-- The corrected scores of a block are those of the reference's rows. -/
theorem cor_row (s t : Fin cfg0.N) (R : Fin 8192) (r : Fin 512) (h : R.val = min s.val 15 * 512 + r.val) :
    row (k0_pay6 (stored m c s) (iblk m c 2 t)) r = RefRow.cor (tok m c) (wgt m c) (bia m c) R := by
  funext l
  rw [corr_apply, RefRow.cor_eq, sig_row m c s R r h, bias_apply]

variable (hb : ∀ l : Fin 256, bia m c (ix1 l) ≠ (⊥ : EReal))
include hb

/-- The weights step `t` writes back are the reference's. -/
theorem gateW_row (s t : Fin cfg0.N) (R : Fin 8192) (r : Fin 512) (q : Fin 8) (h : R.val = min s.val 15 * 512 + r.val) :
    gateW (stored m c s) (iblk m c 2 t) (iblk m c 3 t) (ix2 r q) = outW m c (ix2 R q) := by
  unfold outW
  rw [RefRow.weights_apply, gateW_apply _ _ _ (mat_apply m c t) (fun l => by rw [bias_apply]; exact hb l), sig_row m c s R r h, cor_row m c s t R r h]

/-- The expert numbers step `t` writes back are the reference's. -/
theorem gateI_row (s t : Fin cfg0.N) (R : Fin 8192) (r : Fin 512) (q : Fin 8) (h : R.val = min s.val 15 * 512 + r.val) :
    gateI (stored m c s) (iblk m c 2 t) (iblk m c 3 t) (ix2 r q) = outI m c (ix2 R q) := by
  unfold outI
  rw [RefRow.experts_apply, gateI_apply _ _ _ (mat_apply m c t) (fun l => by rw [bias_apply]; exact hb l), cor_row m c s t R r h]

variable (after : (w' : Fin cfg0.W) → Fin cfg0.N → (cfg0.win w').block.Idx → Elt Ideal (cfg0.win w').elt)
  (hL : ∀ (w : Fin cfg0.W) (u : Fin cfg0.N), (cfg0.win w).flush u = true → (rdat m c).Leaves w u (after w u))
include hL

/-- The array of weights the run leaves is the reference's. -/
theorem arr_W : ((rdat m c).withAfter after).arrAt 4 cfg0.N = outW m c := by
  refine ((rdat m c).withAfter after).arrAt_eq_of_covers 4 _ (by decide +kernel) fun t hf y => ?_
  have hp := flush_pos t (Or.inl hf)
  have hl : Left m c 4 t (after 4 t) := (dats m 0 c).toRRel_leaves rfl (hL 4 t hf)
  have ha := hl ⟨t.val - 1, by omega⟩ (by show t.val - 1 + 1 = t.val; omega)
  have h17 : t.val < 17 := t.isLt
  obtain ⟨r, q, rfl⟩ : ∃ (r : Fin 512) (q : Fin 8), y = ix2 r q := ⟨y 0, y 1, by
    funext a; match a with | ⟨0, _⟩ | ⟨1, _⟩ => rfl⟩
  blk_simp
  refine (congrFun ha (ix2 r q)).trans ((gateW_row m c hb ⟨t.val - 1, by omega⟩ t ⟨(t.val - 1) * 512 + r.val, by omega⟩ r q
    (by show (t.val - 1) * 512 + r.val = min (t.val - 1) 15 * 512 + r.val; omega)).trans (congrArg (outW m c) ?_))
  blk_ext [index0_4 t]

/-- The array of expert numbers the run leaves is the reference's. -/
theorem arr_I : ((rdat m c).withAfter after).arrAt 5 cfg0.N = outI m c := by
  refine ((rdat m c).withAfter after).arrAt_eq_of_covers 5 _ (by decide +kernel) fun t hf y => ?_
  have hp := flush_pos t (Or.inr hf)
  have hl : Left m c 5 t (after 5 t) := (dats m 0 c).toRRel_leaves rfl (hL 5 t hf)
  have ha := hl ⟨t.val - 1, by omega⟩ (by show t.val - 1 + 1 = t.val; omega)
  have h17 : t.val < 17 := t.isLt
  obtain ⟨r, q, rfl⟩ : ∃ (r : Fin 512) (q : Fin 8), y = ix2 r q := ⟨y 0, y 1, by
    funext a; match a with | ⟨0, _⟩ | ⟨1, _⟩ => rfl⟩
  blk_simp
  refine (congrFun ha (ix2 r q)).trans ((gateI_row m c hb ⟨t.val - 1, by omega⟩ t ⟨(t.val - 1) * 512 + r.val, by omega⟩ r q
    (by show (t.val - 1) * 512 + r.val = min (t.val - 1) 15 * 512 + r.val; omega)).trans (congrArg (outI m c) ?_))
  blk_ext [index0_5 t]

end Cert.Gate

end
-- ==== Proof.Value.lean ====
/-
  The value claim: from memories that agree on the arguments, no bias at minus infinity, the kernel and the reference end
  with equal results.
-/
module

public import proofs.«01_k».proof.Defs
public import proofs.«01_k».proof.Proof.Arrays
public import proofs.«01_k».proof.Proof.Gen.ReferenceIdeal.Run

@[expose] public section

noncomputable section

namespace Cert.Gate

open Idealize.ShloMosaic Idealize.ShloMosaic.TcCoe Idealize.SL.Sem

/-- The precondition's own side condition. -/
theorem pre_facts : Cert.Pre_bias_above.Facts := { bcast_S_S256 := by decide }

/-- The precondition says that no bias is minus infinity. -/
theorem bias_ne (m : (ℓ : Loc KernelIdeal.nD KernelIdeal.τ KernelIdeal.sig) → Buf (Elt Ideal) ℓ)
    (h : Cert.Pre_KernelIdeal_bias_above (hPre_bias_above := pre_facts) m) (c : Dev KernelIdeal.nD) (l : Fin 256) :
    bia m c (ix1 l) ≠ (⊥ : EReal) := by
  intro hb
  have e : FloatOps.cmpf (F := Ideal) (φ := .f32) .ogt (bia m c (ix1 l)) (Ideal.ofBits .f32 0xFF800000#32) = 1#1 := congrFun (h c) (ix1 l)
  rw [hb, bits_bot] at e
  simp [FloatOps.cmpf, Ideal.cmp] at e

/-- The kernel's run: its results are the reference's at its arguments. -/
theorem value_run (m : (ℓ : Loc KernelIdeal.nD KernelIdeal.τ KernelIdeal.sig) → Buf (Elt Ideal) ℓ) (g : Dev KernelIdeal.nD → PrngReg)
    (hb : ∀ (c : Dev KernelIdeal.nD) (l : Fin 256), bia m c (ix1 l) ≠ (⊥ : EReal)) :
    θ_run (KernelIdeal.defs (F := Ideal)) (onTc (τ := KernelIdeal.τ) (KernelIdeal.main (F := Ideal))) ⟨m, fun _ => 0, g⟩
      (fun r => ∀ c : Dev KernelIdeal.nD,
        r.2.mem ((c : Thread KernelIdeal.nD KernelIdeal.τ).loc KernelIdeal.main_v0_0) = outW m c
        ∧ r.2.mem ((c : Thread KernelIdeal.nD KernelIdeal.τ).loc KernelIdeal.main_v0_1) = outI m c
        ∧ r.2.mem ((c : Thread KernelIdeal.nD KernelIdeal.τ).loc KernelIdeal.main_arg0) = m ((c : Thread KernelIdeal.nD KernelIdeal.τ).loc KernelIdeal.main_arg0)
        ∧ r.2.mem ((c : Thread KernelIdeal.nD KernelIdeal.τ).loc KernelIdeal.main_arg1) = m ((c : Thread KernelIdeal.nD KernelIdeal.τ).loc KernelIdeal.main_arg1)
        ∧ r.2.mem ((c : Thread KernelIdeal.nD KernelIdeal.τ).loc KernelIdeal.main_arg2) = m ((c : Thread KernelIdeal.nD KernelIdeal.τ).loc KernelIdeal.main_arg2)) :=
  (θ_run KernelIdeal.defs _ _).mono (fun r h c => by
    obtain ⟨after, hL, hA⟩ := h.1.exists_exact c
    exact ⟨(hA 4).trans (arr_W m c (hb c) after hL), (hA 5).trans (arr_I m c (hb c) after hL), args_kept m r h.1 c⟩) (run_main m g)

/-- The value claim. -/
theorem algebraic : Cert.algebraic_KernelIdeal_ReferenceIdeal_pre_bias_above (hKernelIdeal := Cert.KernelIdeal.Gen.facts)
    (hReferenceIdeal := Cert.ReferenceIdeal.Gen.facts) (hPre_bias_above := pre_facts) := by
  intro m g m' g' hpre hargs
  refine ⟨outW m, outI m, value_run m g (bias_ne m hpre), ?_⟩
  refine (θ_run Cert.ReferenceIdeal.defs _ _).mono (fun r h c => ?_) (Cert.ReferenceIdeal.Value.run (F := Ideal) m' g')
  obtain ⟨h0, h1, ha⟩ := h c
  obtain ⟨a0, a1, a2⟩ := hargs c
  refine ⟨h0.trans ?_, h1.trans ?_, ha⟩
  · rw [Cert.ReferenceIdeal.Read.val_main_v41_eq, a0, a1, a2]; rfl
  · rw [Cert.ReferenceIdeal.Read.val_main_indices_11_eq, a0, a1, a2]; rfl

end Cert.Gate

end
-- ==== Proof.lean ====
/- The certificate's claim, assembled: the frames of the kernel as printed, of the kernel with its constant named and of the
   reference, the naming of that constant, and the equality of the kernel's results with the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

/-- The kernel as printed: its frame. -/
theorem quiescent_Kernel : Cert.quiescent_Kernel (hKernel := Cert.Kernel.Gen.facts) :=
  fun m g _ => Cert.Plain.frame_run m g

/-- The kernel with its constant named: its frame. -/
theorem quiescent_KernelIdeal : Cert.quiescent_KernelIdeal (hKernelIdeal := Cert.KernelIdeal.Gen.facts) :=
  fun m g _ => Cert.Gate.frame_run m g

/-- The reference: its frame. It uses no semaphore. -/
theorem quiescent_ReferenceIdeal : Cert.quiescent_ReferenceIdeal (hReferenceIdeal := Cert.ReferenceIdeal.Gen.facts) :=
  fun m g _ => (θ_run Cert.ReferenceIdeal.defs _ _).mono
    (fun r h => ⟨fun c => (h c).2.2, sem_eq_zero_of_no_sems (by decide) r.2⟩) (Cert.ReferenceIdeal.Value.run (F := Ideal) m g)

/-- The named constant reads minus infinity. -/
theorem preserves : Cert.preserves_Kernel_KernelIdeal :=
  IdealRules.named_const.statement Cert.KernelIdeal.κ "neg" .f32 0xF149F2CA#32 ⊥ rfl

/-- The two frames again, of memories that meet the precondition. -/
theorem quiescent_KernelIdeal_pre : Cert.quiescent_KernelIdeal_pre_bias_above (hKernelIdeal := Cert.KernelIdeal.Gen.facts)
    (hPre_bias_above := Cert.Gate.pre_facts) :=
  fun m g _ => quiescent_KernelIdeal m g trivial

/-- The frame of the reference again, of memories that meet the precondition. -/
theorem quiescent_ReferenceIdeal_pre : Cert.quiescent_ReferenceIdeal_pre_bias_above (hReferenceIdeal := Cert.ReferenceIdeal.Gen.facts)
    (hPre_bias_above := Cert.Gate.pre_facts) :=
  fun m g _ => quiescent_ReferenceIdeal m g trivial

/-- Everything claimed. -/
theorem claim : Cert.Claim := ⟨Cert.Kernel.Gen.facts, Cert.KernelIdeal.Gen.facts, Cert.ReferenceIdeal.Gen.facts, Cert.Gate.pre_facts,
  quiescent_Kernel, quiescent_KernelIdeal, quiescent_KernelIdeal_pre, quiescent_ReferenceIdeal, quiescent_ReferenceIdeal_pre, preserves,
  Cert.Gate.algebraic⟩

end Cert.Proof

end
